-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "sqrt2" .f32 0x3FB504F3#32 ((Real.sqrt 2 : ℝ) : EReal)
  ∧ IdealRules.sign_bit.Statement Cert.KernelIdeal.S16x256 .f32
  ∧ IdealRules.sign_bit.Statement Cert.KernelIdeal.S16x64 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x512 : Shape := ⟨3, ![16, 4096, 512]⟩
abbrev S16x4096 : Shape := ⟨2, ![16, 4096]⟩
abbrev S16x1536 : Shape := ⟨2, ![16, 1536]⟩
abbrev S1536x256 : Shape := ⟨2, ![1536, 256]⟩
abbrev S256 : Shape := ⟨1, ![256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S16 : Shape := ⟨1, ![16]⟩
abbrev S16x1 : Shape := ⟨2, ![16, 1]⟩
abbrev S16x256 : Shape := ⟨2, ![16, 256]⟩
abbrev S1x256 : Shape := ⟨2, ![1, 256]⟩
abbrev S16x64 : Shape := ⟨2, ![16, 64]⟩
abbrev S1x64 : Shape := ⟨2, ![1, 64]⟩
abbrev S16x3 : Shape := ⟨2, ![16, 3]⟩
abbrev S1x3 : Shape := ⟨2, ![1, 3]⟩
abbrev S65536x512 : Shape := ⟨2, ![65536, 512]⟩
abbrev S16x1x4096 : Shape := ⟨3, ![16, 1, 4096]⟩
abbrev S4096x512 : Shape := ⟨2, ![4096, 512]⟩
abbrev S1x1x4096 : Shape := ⟨3, ![1, 1, 4096]⟩
abbrev S4096 : Shape := ⟨1, ![4096]⟩
abbrev S4096x1 : Shape := ⟨2, ![4096, 1]⟩

abbrev nBuf : Space → Nat
  | .hbm => 18
  | .vmem => 19
  | .smem => 0
  | _ => 0

abbrev bufTy : (tb : Table) → Fin (tcTables nBuf tb) → BufTy
  | .hbm, ⟨0, _⟩ => ⟨S16x4096x512, .f32⟩
  | .hbm, ⟨1, _⟩ => ⟨S16x4096, .f32⟩
  | .hbm, ⟨2, _⟩ => ⟨S16x4096, .f32⟩
  | .hbm, ⟨3, _⟩ => ⟨S16x4096, .f32⟩
  | .hbm, ⟨4, _⟩ => ⟨S16x1536, .f32⟩
  | .hbm, ⟨5, _⟩ => ⟨S1536x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S64x3, .f32⟩
  | .hbm, ⟨12, _⟩ => ⟨S3, .f32⟩
  | .hbm, ⟨13, _⟩ => ⟨S16x4096, .f32⟩
  | .hbm, ⟨14, _⟩ => ⟨S65536x512, .f32⟩
  | .hbm, ⟨15, _⟩ => ⟨S16x1x4096, .f32⟩
  | .hbm, ⟨16, _⟩ => ⟨S65536x512, .f32⟩
  | .hbm, ⟨17, _⟩ => ⟨S16x4096x512, .f32⟩
  | .local _ .vmem, ⟨0, _⟩ => ⟨S16x4096, .f32⟩
  | .local _ .vmem, ⟨1, _⟩ => ⟨S16x4096, .f32⟩
  | .local _ .vmem, ⟨2, _⟩ => ⟨S16x4096, .f32⟩
  | .local _ .vmem, ⟨3, _⟩ => ⟨S16x1536, .f32⟩
  | .local _ .vmem, ⟨4, _⟩ => ⟨S1536x256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256x64, .f32⟩
  | .local _ .vmem, ⟨9, _⟩ => ⟨S64, .f32⟩
  | .local _ .vmem, ⟨10, _⟩ => ⟨S64x3, .f32⟩
  | .local _ .vmem, ⟨11, _⟩ => ⟨S3, .f32⟩
  | .local _ .vmem, ⟨12, _⟩ => ⟨S16x4096, .f32⟩
  | .local _ .vmem, ⟨13, _⟩ => ⟨S4096x512, .f32⟩
  | .local _ .vmem, ⟨14, _⟩ => ⟨S4096x512, .f32⟩
  | .local _ .vmem, ⟨15, _⟩ => ⟨S1x1x4096, .f32⟩
  | .local _ .vmem, ⟨16, _⟩ => ⟨S1x1x4096, .f32⟩
  | .local _ .vmem, ⟨17, _⟩ => ⟨S4096x512, .f32⟩
  | .local _ .vmem, ⟨18, _⟩ => ⟨S4096x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c31_i32 : BitVec 32 := 31#32
  let v233 : BitVec 32 := Scalar.addi c0_i32 c31_i32
  let c1_i32 : BitVec 32 := 1#32
  ⟨c0_i32, v233, c1_i32⟩
abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "sqrt2" => some ((Real.sqrt 2 : ℝ) : EReal)
  | _ => none
-- ==== ReferenceIdeal.lean ====
abbrev S16x4096x512 : Shape := ⟨3, ![16, 4096, 512]⟩
abbrev S16x4096 : Shape := ⟨2, ![16, 4096]⟩
abbrev S16x1536 : Shape := ⟨2, ![16, 1536]⟩
abbrev S1536x256 : Shape := ⟨2, ![1536, 256]⟩
abbrev S256 : Shape := ⟨1, ![256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S_ : Shape := ⟨0, ![]⟩
abbrev S16 : Shape := ⟨1, ![16]⟩
abbrev S16x1 : Shape := ⟨2, ![16, 1]⟩
abbrev S16x256 : Shape := ⟨2, ![16, 256]⟩
abbrev S1x256 : Shape := ⟨2, ![1, 256]⟩
abbrev S16x64 : Shape := ⟨2, ![16, 64]⟩
abbrev S1x64 : Shape := ⟨2, ![1, 64]⟩
abbrev S16x3 : Shape := ⟨2, ![16, 3]⟩
abbrev S1x3 : Shape := ⟨2, ![1, 3]⟩
abbrev S2139095040 : Shape := ⟨1, ![2139095040]⟩
abbrev S1x2139095040 : Shape := ⟨2, ![1, 2139095040]⟩
abbrev S16x2139095040 : Shape := ⟨2, ![16, 2139095040]⟩
abbrev S16x4096x1 : Shape := ⟨3, ![16, 4096, 1]⟩

abbrev nBuf : Space → Nat
  | .hbm => 379
  | .vmem => 0
  | .smem => 0
  | _ => 0

abbrev hbmTy0_0 (i : Nat) : BufTy := match i % 128 with
  | 0 => ⟨S16x4096x512, .f32⟩
  | 1 => ⟨S16x4096, .f32⟩
  | 2 => ⟨S16x4096, .f32⟩
  | 3 => ⟨S16x4096, .f32⟩
  | 4 => ⟨S16x1536, .f32⟩
  | 5 => ⟨S1536x256, .f32⟩
  | 6 => ⟨S256, .f32⟩
  | 7 => ⟨S256, .f32⟩
  | 8 => ⟨S256, .f32⟩
  | 9 => ⟨S256x64, .f32⟩
  | 10 => ⟨S64, .f32⟩
  | 11 => ⟨S64x3, .f32⟩
  | 12 => ⟨S3, .f32⟩
  | 13 => ⟨S_, .f32⟩
  | 14 => ⟨S16, .f32⟩
  | 15 => ⟨S16x1, .f32⟩
  | 16 => ⟨S_, .f32⟩
  | 17 => ⟨S16x1, .f32⟩
  | 18 => ⟨S16x1, .f32⟩
  | 19 => ⟨S_, .i32⟩
  | 20 => ⟨S_, .f32⟩
  | 21 => ⟨S16, .f32⟩
  | 22 => ⟨S16x1, .f32⟩
  | 23 => ⟨S_, .f32⟩
  | 24 => ⟨S16x1, .f32⟩
  | 25 => ⟨S16x1, .f32⟩
  | 26 => ⟨S16x4096, .f32⟩
  | 27 => ⟨S16x4096, .f32⟩
  | 28 => ⟨S16x4096, .f32⟩
  | 29 => ⟨S_, .f32⟩
  | 30 => ⟨S_, .f32⟩
  | 31 => ⟨S_, .f32⟩
  | 32 => ⟨S_, .f32⟩
  | 33 => ⟨S16, .f32⟩
  | 34 => ⟨S16x1, .f32⟩
  | 35 => ⟨S16x1, .f32⟩
  | 36 => ⟨S16x1, .f32⟩
  | 37 => ⟨S_, .f32⟩
  | 38 => ⟨S_, .i1⟩
  | 39 => ⟨S_, .f32⟩
  | 40 => ⟨S_, .f32⟩
  | 41 => ⟨S16x1, .f32⟩
  | 42 => ⟨S16x1, .f32⟩
  | 43 => ⟨S16x1, .f32⟩
  | 44 => ⟨S_, .f32⟩
  | 45 => ⟨S16x1, .f32⟩
  | 46 => ⟨S16x1, .f32⟩
  | 47 => ⟨S16x4096, .f32⟩
  | 48 => ⟨S16x4096, .f32⟩
  | 49 => ⟨S16x4096, .f32⟩
  | 50 => ⟨S16x4096, .f32⟩
  | 51 => ⟨S16x4096, .f32⟩
  | 52 => ⟨S16x4096, .f32⟩
  | 53 => ⟨S_, .f32⟩
  | 54 => ⟨S16x4096, .f32⟩
  | 55 => ⟨S16x4096, .f32⟩
  | 56 => ⟨S_, .f32⟩
  | 57 => ⟨S16x4096, .f32⟩
  | 58 => ⟨S16x4096, .f32⟩
  | 59 => ⟨S_, .f32⟩
  | 60 => ⟨S16, .f32⟩
  | 61 => ⟨S16x1, .f32⟩
  | 62 => ⟨S_, .f32⟩
  | 63 => ⟨S16x1, .f32⟩
  | 64 => ⟨S16x1, .f32⟩
  | 65 => ⟨S_, .i32⟩
  | 66 => ⟨S_, .f32⟩
  | 67 => ⟨S16, .f32⟩
  | 68 => ⟨S16x1, .f32⟩
  | 69 => ⟨S_, .f32⟩
  | 70 => ⟨S16x1, .f32⟩
  | 71 => ⟨S16x1, .f32⟩
  | 72 => ⟨S16x4096, .f32⟩
  | 73 => ⟨S16x4096, .f32⟩
  | 74 => ⟨S16x4096, .f32⟩
  | 75 => ⟨S_, .f32⟩
  | 76 => ⟨S_, .f32⟩
  | 77 => ⟨S_, .f32⟩
  | 78 => ⟨S_, .f32⟩
  | 79 => ⟨S16, .f32⟩
  | 80 => ⟨S16x1, .f32⟩
  | 81 => ⟨S16x1, .f32⟩
  | 82 => ⟨S16x1, .f32⟩
  | 83 => ⟨S_, .f32⟩
  | 84 => ⟨S_, .i1⟩
  | 85 => ⟨S_, .f32⟩
  | 86 => ⟨S_, .f32⟩
  | 87 => ⟨S16x1, .f32⟩
  | 88 => ⟨S16x1, .f32⟩
  | 89 => ⟨S16x1, .f32⟩
  | 90 => ⟨S_, .f32⟩
  | 91 => ⟨S16x1, .f32⟩
  | 92 => ⟨S16x1, .f32⟩
  | 93 => ⟨S16x4096, .f32⟩
  | 94 => ⟨S16x4096, .f32⟩
  | 95 => ⟨S16x4096, .f32⟩
  | 96 => ⟨S16x4096, .f32⟩
  | 97 => ⟨S16x4096, .f32⟩
  | 98 => ⟨S16x4096, .f32⟩
  | 99 => ⟨S_, .f32⟩
  | 100 => ⟨S16x4096, .f32⟩
  | 101 => ⟨S16x4096, .f32⟩
  | 102 => ⟨S_, .f32⟩
  | 103 => ⟨S16x4096, .f32⟩
  | 104 => ⟨S16x4096, .f32⟩
  | 105 => ⟨S_, .f32⟩
  | 106 => ⟨S16, .f32⟩
  | 107 => ⟨S16x1, .f32⟩
  | 108 => ⟨S_, .f32⟩
  | 109 => ⟨S16x1, .f32⟩
  | 110 => ⟨S16x1, .f32⟩
  | 111 => ⟨S_, .i32⟩
  | 112 => ⟨S_, .f32⟩
  | 113 => ⟨S16, .f32⟩
  | 114 => ⟨S16x1, .f32⟩
  | 115 => ⟨S_, .f32⟩
  | 116 => ⟨S16x1, .f32⟩
  | 117 => ⟨S16x1, .f32⟩
  | 118 => ⟨S16x4096, .f32⟩
  | 119 => ⟨S16x4096, .f32⟩
  | 120 => ⟨S16x4096, .f32⟩
  | 121 => ⟨S_, .f32⟩
  | 122 => ⟨S_, .f32⟩
  | 123 => ⟨S_, .f32⟩
  | 124 => ⟨S_, .f32⟩
  | 125 => ⟨S16, .f32⟩
  | 126 => ⟨S16x1, .f32⟩
  | 127 => ⟨S16x1, .f32⟩
  | _ => ⟨S16x4096x512, .f32⟩

abbrev hbmTy0_1 (i : Nat) : BufTy := match i % 128 with
  | 0 => ⟨S16x1, .f32⟩
  | 1 => ⟨S_, .f32⟩
  | 2 => ⟨S_, .i1⟩
  | 3 => ⟨S_, .f32⟩
  | 4 => ⟨S_, .f32⟩
  | 5 => ⟨S16x1, .f32⟩
  | 6 => ⟨S16x1, .f32⟩
  | 7 => ⟨S16x1, .f32⟩
  | 8 => ⟨S_, .f32⟩
  | 9 => ⟨S16x1, .f32⟩
  | 10 => ⟨S16x1, .f32⟩
  | 11 => ⟨S16x4096, .f32⟩
  | 12 => ⟨S16x4096, .f32⟩
  | 13 => ⟨S16x4096, .f32⟩
  | 14 => ⟨S16x4096, .f32⟩
  | 15 => ⟨S16x4096, .f32⟩
  | 16 => ⟨S16x4096, .f32⟩
  | 17 => ⟨S_, .f32⟩
  | 18 => ⟨S16x4096, .f32⟩
  | 19 => ⟨S16x4096, .f32⟩
  | 20 => ⟨S_, .f32⟩
  | 21 => ⟨S16x4096, .f32⟩
  | 22 => ⟨S16x4096, .f32⟩
  | 23 => ⟨S16x256, .f32⟩
  | 24 => ⟨S1x256, .f32⟩
  | 25 => ⟨S16x256, .f32⟩
  | 26 => ⟨S16x256, .f32⟩
  | 27 => ⟨S_, .f32⟩
  | 28 => ⟨S16, .f32⟩
  | 29 => ⟨S16x1, .f32⟩
  | 30 => ⟨S_, .f32⟩
  | 31 => ⟨S16x1, .f32⟩
  | 32 => ⟨S16x1, .f32⟩
  | 33 => ⟨S_, .i32⟩
  | 34 => ⟨S_, .f32⟩
  | 35 => ⟨S16, .f32⟩
  | 36 => ⟨S16x1, .f32⟩
  | 37 => ⟨S_, .f32⟩
  | 38 => ⟨S16x1, .f32⟩
  | 39 => ⟨S16x1, .f32⟩
  | 40 => ⟨S16x256, .f32⟩
  | 41 => ⟨S16x256, .f32⟩
  | 42 => ⟨S16x256, .f32⟩
  | 43 => ⟨S_, .f32⟩
  | 44 => ⟨S_, .f32⟩
  | 45 => ⟨S_, .f32⟩
  | 46 => ⟨S_, .f32⟩
  | 47 => ⟨S16, .f32⟩
  | 48 => ⟨S16x1, .f32⟩
  | 49 => ⟨S16x1, .f32⟩
  | 50 => ⟨S16x1, .f32⟩
  | 51 => ⟨S_, .f32⟩
  | 52 => ⟨S_, .i1⟩
  | 53 => ⟨S_, .f32⟩
  | 54 => ⟨S_, .f32⟩
  | 55 => ⟨S16x1, .f32⟩
  | 56 => ⟨S16x1, .f32⟩
  | 57 => ⟨S16x256, .f32⟩
  | 58 => ⟨S16x256, .f32⟩
  | 59 => ⟨S_, .f32⟩
  | 60 => ⟨S16x1, .f32⟩
  | 61 => ⟨S16x1, .f32⟩
  | 62 => ⟨S16x1, .f32⟩
  | 63 => ⟨S16x256, .f32⟩
  | 64 => ⟨S16x256, .f32⟩
  | 65 => ⟨S1x256, .f32⟩
  | 66 => ⟨S16x256, .f32⟩
  | 67 => ⟨S16x256, .f32⟩
  | 68 => ⟨S1x256, .f32⟩
  | 69 => ⟨S16x256, .f32⟩
  | 70 => ⟨S16x256, .f32⟩
  | 71 => ⟨S_, .f32⟩
  | 72 => ⟨S_, .f32⟩
  | 73 => ⟨S16x256, .f32⟩
  | 74 => ⟨S16x256, .f32⟩
  | 75 => ⟨S16x256, .f32⟩
  | 76 => ⟨S_, .f32⟩
  | 77 => ⟨S16x256, .f32⟩
  | 78 => ⟨S16x256, .f32⟩
  | 79 => ⟨S_, .f32⟩
  | 80 => ⟨S16x256, .f32⟩
  | 81 => ⟨S16x256, .f32⟩
  | 82 => ⟨S_, .f32⟩
  | 83 => ⟨S16x256, .f32⟩
  | 84 => ⟨S16x256, .f32⟩
  | 85 => ⟨S_, .f32⟩
  | 86 => ⟨S16x256, .f32⟩
  | 87 => ⟨S16x256, .f32⟩
  | 88 => ⟨S16x256, .f32⟩
  | 89 => ⟨S_, .f32⟩
  | 90 => ⟨S16x256, .f32⟩
  | 91 => ⟨S16x256, .f32⟩
  | 92 => ⟨S16x256, .f32⟩
  | 93 => ⟨S16x256, .f32⟩
  | 94 => ⟨S16x256, .f32⟩
  | 95 => ⟨S_, .f32⟩
  | 96 => ⟨S16x256, .f32⟩
  | 97 => ⟨S16x256, .f32⟩
  | 98 => ⟨S16x256, .f32⟩
  | 99 => ⟨S16x256, .f32⟩
  | 100 => ⟨S16x256, .f32⟩
  | 101 => ⟨S_, .f32⟩
  | 102 => ⟨S16x256, .f32⟩
  | 103 => ⟨S16x256, .f32⟩
  | 104 => ⟨S16x256, .f32⟩
  | 105 => ⟨S16x256, .f32⟩
  | 106 => ⟨S16x256, .f32⟩
  | 107 => ⟨S16x256, .f32⟩
  | 108 => ⟨S_, .f32⟩
  | 109 => ⟨S16x256, .f32⟩
  | 110 => ⟨S16x256, .f32⟩
  | 111 => ⟨S16x256, .f32⟩
  | 112 => ⟨S16x256, .f32⟩
  | 113 => ⟨S16x256, .f32⟩
  | 114 => ⟨S16x256, .f32⟩
  | 115 => ⟨S16x256, .f32⟩
  | 116 => ⟨S16x256, .f32⟩
  | 117 => ⟨S_, .f32⟩
  | 118 => ⟨S16x256, .f32⟩
  | 119 => ⟨S16x256, .f32⟩
  | 120 => ⟨S16x256, .f32⟩
  | 121 => ⟨S_, .f32⟩
  | 122 => ⟨S16x256, .f32⟩
  | 123 => ⟨S16x256, .f32⟩
  | 124 => ⟨S16x256, .f32⟩
  | 125 => ⟨S_, .f32⟩
  | 126 => ⟨S16x256, .f32⟩
  | 127 => ⟨S16x256, .f32⟩
  | _ => ⟨S16x4096x512, .f32⟩

abbrev hbmTy0_2 (i : Nat) : BufTy := match i % 128 with
  | 0 => ⟨S16x64, .f32⟩
  | 1 => ⟨S1x64, .f32⟩
  | 2 => ⟨S16x64, .f32⟩
  | 3 => ⟨S16x64, .f32⟩
  | 4 => ⟨S_, .f32⟩
  | 5 => ⟨S_, .f32⟩
  | 6 => ⟨S16x64, .f32⟩
  | 7 => ⟨S16x64, .f32⟩
  | 8 => ⟨S16x64, .f32⟩
  | 9 => ⟨S_, .f32⟩
  | 10 => ⟨S16x64, .f32⟩
  | 11 => ⟨S16x64, .f32⟩
  | 12 => ⟨S_, .f32⟩
  | 13 => ⟨S16x64, .f32⟩
  | 14 => ⟨S16x64, .f32⟩
  | 15 => ⟨S_, .f32⟩
  | 16 => ⟨S16x64, .f32⟩
  | 17 => ⟨S16x64, .f32⟩
  | 18 => ⟨S_, .f32⟩
  | 19 => ⟨S16x64, .f32⟩
  | 20 => ⟨S16x64, .f32⟩
  | 21 => ⟨S16x64, .f32⟩
  | 22 => ⟨S_, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S_, .f32⟩
  | 29 => ⟨S16x64, .f32⟩
  | 30 => ⟨S16x64, .f32⟩
  | 31 => ⟨S16x64, .f32⟩
  | 32 => ⟨S16x64, .f32⟩
  | 33 => ⟨S16x64, .f32⟩
  | 34 => ⟨S_, .f32⟩
  | 35 => ⟨S16x64, .f32⟩
  | 36 => ⟨S16x64, .f32⟩
  | 37 => ⟨S16x64, .f32⟩
  | 38 => ⟨S16x64, .f32⟩
  | 39 => ⟨S16x64, .f32⟩
  | 40 => ⟨S16x64, .f32⟩
  | 41 => ⟨S_, .f32⟩
  | 42 => ⟨S16x64, .f32⟩
  | 43 => ⟨S16x64, .f32⟩
  | 44 => ⟨S16x64, .f32⟩
  | 45 => ⟨S16x64, .f32⟩
  | 46 => ⟨S16x64, .f32⟩
  | 47 => ⟨S16x64, .f32⟩
  | 48 => ⟨S16x64, .f32⟩
  | 49 => ⟨S16x64, .f32⟩
  | 50 => ⟨S_, .f32⟩
  | 51 => ⟨S16x64, .f32⟩
  | 52 => ⟨S16x64, .f32⟩
  | 53 => ⟨S16x64, .f32⟩
  | 54 => ⟨S_, .f32⟩
  | 55 => ⟨S16x64, .f32⟩
  | 56 => ⟨S16x64, .f32⟩
  | 57 => ⟨S16x64, .f32⟩
  | 58 => ⟨S_, .f32⟩
  | 59 => ⟨S16x64, .f32⟩
  | 60 => ⟨S16x64, .f32⟩
  | 61 => ⟨S16x3, .f32⟩
  | 62 => ⟨S1x3, .f32⟩
  | 63 => ⟨S16x3, .f32⟩
  | 64 => ⟨S16x3, .f32⟩
  | 65 => ⟨S_, .f32⟩
  | 66 => ⟨S16, .f32⟩
  | 67 => ⟨S_, .f32⟩
  | 68 => ⟨S16, .f32⟩
  | 69 => ⟨S16, .f32⟩
  | 70 => ⟨S16x1, .f32⟩
  | 71 => ⟨S16x3, .f32⟩
  | 72 => ⟨S16x3, .f32⟩
  | 73 => ⟨S16x3, .f32⟩
  | 74 => ⟨S_, .f32⟩
  | 75 => ⟨S16, .f32⟩
  | 76 => ⟨S16x1, .f32⟩
  | 77 => ⟨S16x3, .f32⟩
  | 78 => ⟨S16x3, .f32⟩
  | 79 => ⟨S16x1, .f32⟩
  | 80 => ⟨S16x4096, .f32⟩
  | 81 => ⟨S16x4096, .f32⟩
  | 82 => ⟨S16x1, .f32⟩
  | 83 => ⟨S16x4096, .f32⟩
  | 84 => ⟨S16x4096, .f32⟩
  | 85 => ⟨S16x4096, .f32⟩
  | 86 => ⟨S16x1, .f32⟩
  | 87 => ⟨S16x4096, .f32⟩
  | 88 => ⟨S16x4096, .f32⟩
  | 89 => ⟨S16x4096, .f32⟩
  | 90 => ⟨S16x4096, .f32⟩
  | 91 => ⟨S16x1, .f32⟩
  | 92 => ⟨S2139095040, .i32⟩
  | 93 => ⟨S2139095040, .f32⟩
  | 94 => ⟨S1x2139095040, .f32⟩
  | 95 => ⟨S16x2139095040, .f32⟩
  | 96 => ⟨S16x2139095040, .f32⟩
  | 97 => ⟨S16x2139095040, .i1⟩
  | 98 => ⟨S1x2139095040, .f32⟩
  | 99 => ⟨S_, .f32⟩
  | 100 => ⟨S_, .f32⟩
  | 101 => ⟨S16x2139095040, .f32⟩
  | 102 => ⟨S16x2139095040, .f32⟩
  | 103 => ⟨S16x2139095040, .f32⟩
  | 104 => ⟨S_, .f32⟩
  | 105 => ⟨S16, .f32⟩
  | 106 => ⟨S16x1, .f32⟩
  | 107 => ⟨S16x4096, .f32⟩
  | 108 => ⟨S16x4096, .f32⟩
  | 109 => ⟨S_, .f32⟩
  | 110 => ⟨S16x4096, .f32⟩
  | 111 => ⟨S16x4096, .f32⟩
  | 112 => ⟨S16x4096, .f32⟩
  | 113 => ⟨S16x4096, .f32⟩
  | 114 => ⟨S_, .f32⟩
  | 115 => ⟨S16x4096, .f32⟩
  | 116 => ⟨S16x4096, .f32⟩
  | 117 => ⟨S_, .f32⟩
  | 118 => ⟨S16x4096, .f32⟩
  | 119 => ⟨S16x4096, .f32⟩
  | 120 => ⟨S16x4096x1, .f32⟩
  | 121 => ⟨S16x4096x512, .f32⟩
  | 122 => ⟨S16x4096x512, .f32⟩
  | _ => ⟨S16x4096x512, .f32⟩

abbrev hbmTy (i : Nat) : BufTy := match i / 128 with
  | 0 => hbmTy0_0 i
  | 1 => hbmTy0_1 i
  | 2 => hbmTy0_2 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_cst_0 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_cst_1 : Ref sig .tc := ⟨.hbm, 30, rfl⟩
abbrev main_call0_call0_v8 : Ref sig .tc := ⟨.hbm, 31, rfl⟩
abbrev main_call0_call0_cst_2 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_call0_v12 : Ref sig .tc := ⟨.hbm, 36, rfl⟩
abbrev main_call0_call0_cst_3 : Ref sig .tc := ⟨.hbm, 37, rfl⟩
abbrev main_call0_call0_v13 : Ref sig .tc := ⟨.hbm, 38, rfl⟩
abbrev main_call0_call0_cst_4 : Ref sig .tc := ⟨.hbm, 39, rfl⟩
abbrev main_call0_call0_call0_v0 : Ref sig .tc := ⟨.hbm, 40, rfl⟩
abbrev main_call0_call0_call0_v1 : Ref sig .tc := ⟨.hbm, 41, rfl⟩
abbrev main_call0_v0 : Ref sig .tc := ⟨.hbm, 42, rfl⟩
abbrev main_v4 : Ref sig .tc := ⟨.hbm, 43, rfl⟩
abbrev main_cst_1 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst_2 : Ref sig .tc := ⟨.hbm, 53, rfl⟩
abbrev main_v13 : Ref sig .tc := ⟨.hbm, 54, rfl⟩
abbrev main_v14 : Ref sig .tc := ⟨.hbm, 55, rfl⟩
abbrev main_cst_3 : Ref sig .tc := ⟨.hbm, 56, rfl⟩
abbrev main_v15 : Ref sig .tc := ⟨.hbm, 57, rfl⟩
abbrev main_v16 : Ref sig .tc := ⟨.hbm, 58, rfl⟩
abbrev main_cst_4 : Ref sig .tc := ⟨.hbm, 59, rfl⟩
abbrev main_v17 : Ref sig .tc := ⟨.hbm, 60, rfl⟩
abbrev main_v18 : Ref sig .tc := ⟨.hbm, 61, rfl⟩
abbrev main_cst_5 : Ref sig .tc := ⟨.hbm, 62, rfl⟩
abbrev main_v19 : Ref sig .tc := ⟨.hbm, 63, rfl⟩
abbrev main_v20 : Ref sig .tc := ⟨.hbm, 64, rfl⟩
abbrev main_c_6 : Ref sig .tc := ⟨.hbm, 65, rfl⟩
abbrev main_call1_call0_cst : Ref sig .tc := ⟨.hbm, 66, rfl⟩
abbrev main_call1_call0_v0 : Ref sig .tc := ⟨.hbm, 67, rfl⟩
abbrev main_call1_call0_v1 : Ref sig .tc := ⟨.hbm, 68, rfl⟩
abbrev main_call1_call0_cst_0 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_v7 : Ref sig .tc := ⟨.hbm, 75, rfl⟩
abbrev main_call1_call0_cst_1 : Ref sig .tc := ⟨.hbm, 76, rfl⟩
abbrev main_call1_call0_v8 : Ref sig .tc := ⟨.hbm, 77, rfl⟩
abbrev main_call1_call0_cst_2 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_call0_v12 : Ref sig .tc := ⟨.hbm, 82, rfl⟩
abbrev main_call1_call0_cst_3 : Ref sig .tc := ⟨.hbm, 83, rfl⟩
abbrev main_call1_call0_v13 : Ref sig .tc := ⟨.hbm, 84, rfl⟩
abbrev main_call1_call0_cst_4 : Ref sig .tc := ⟨.hbm, 85, rfl⟩
abbrev main_call1_call0_call0_v0 : Ref sig .tc := ⟨.hbm, 86, rfl⟩
abbrev main_call1_call0_call0_v1 : Ref sig .tc := ⟨.hbm, 87, rfl⟩
abbrev main_call1_v0 : Ref sig .tc := ⟨.hbm, 88, rfl⟩
abbrev main_v21 : Ref sig .tc := ⟨.hbm, 89, rfl⟩
abbrev main_cst_7 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_cst_8 : Ref sig .tc := ⟨.hbm, 99, rfl⟩
abbrev main_v30 : Ref sig .tc := ⟨.hbm, 100, rfl⟩
abbrev main_v31 : Ref sig .tc := ⟨.hbm, 101, rfl⟩
abbrev main_cst_9 : Ref sig .tc := ⟨.hbm, 102, rfl⟩
abbrev main_v32 : Ref sig .tc := ⟨.hbm, 103, rfl⟩
abbrev main_v33 : Ref sig .tc := ⟨.hbm, 104, rfl⟩
abbrev main_cst_10 : Ref sig .tc := ⟨.hbm, 105, rfl⟩
abbrev main_v34 : Ref sig .tc := ⟨.hbm, 106, rfl⟩
abbrev main_v35 : Ref sig .tc := ⟨.hbm, 107, rfl⟩
abbrev main_cst_11 : Ref sig .tc := ⟨.hbm, 108, rfl⟩
abbrev main_v36 : Ref sig .tc := ⟨.hbm, 109, rfl⟩
abbrev main_v37 : Ref sig .tc := ⟨.hbm, 110, rfl⟩
abbrev main_c_12 : Ref sig .tc := ⟨.hbm, 111, rfl⟩
abbrev main_call2_call0_cst : Ref sig .tc := ⟨.hbm, 112, rfl⟩
abbrev main_call2_call0_v0 : Ref sig .tc := ⟨.hbm, 113, rfl⟩
abbrev main_call2_call0_v1 : Ref sig .tc := ⟨.hbm, 114, rfl⟩
abbrev main_call2_call0_cst_0 : Ref sig .tc := ⟨.hbm, 115, rfl⟩
abbrev main_call2_call0_v2 : Ref sig .tc := ⟨.hbm, 116, rfl⟩
abbrev main_call2_call0_v3 : Ref sig .tc := ⟨.hbm, 117, rfl⟩
abbrev main_call2_call0_v4 : Ref sig .tc := ⟨.hbm, 118, rfl⟩
abbrev main_call2_call0_v5 : Ref sig .tc := ⟨.hbm, 119, rfl⟩
abbrev main_call2_call0_v6 : Ref sig .tc := ⟨.hbm, 120, rfl⟩
abbrev main_call2_call0_v7 : Ref sig .tc := ⟨.hbm, 121, rfl⟩
abbrev main_call2_call0_cst_1 : Ref sig .tc := ⟨.hbm, 122, rfl⟩
abbrev main_call2_call0_v8 : Ref sig .tc := ⟨.hbm, 123, rfl⟩
abbrev main_call2_call0_cst_2 : Ref sig .tc := ⟨.hbm, 124, rfl⟩
abbrev main_call2_call0_v9 : Ref sig .tc := ⟨.hbm, 125, rfl⟩
abbrev main_call2_call0_v10 : Ref sig .tc := ⟨.hbm, 126, rfl⟩
abbrev main_call2_call0_v11 : Ref sig .tc := ⟨.hbm, 127, rfl⟩
abbrev main_call2_call0_v12 : Ref sig .tc := ⟨.hbm, 128, rfl⟩
abbrev main_call2_call0_cst_3 : Ref sig .tc := ⟨.hbm, 129, rfl⟩
abbrev main_call2_call0_v13 : Ref sig .tc := ⟨.hbm, 130, rfl⟩
abbrev main_call2_call0_cst_4 : Ref sig .tc := ⟨.hbm, 131, rfl⟩
abbrev main_call2_call0_call0_v0 : Ref sig .tc := ⟨.hbm, 132, rfl⟩
abbrev main_call2_call0_call0_v1 : Ref sig .tc := ⟨.hbm, 133, rfl⟩
abbrev main_call2_v0 : Ref sig .tc := ⟨.hbm, 134, rfl⟩
abbrev main_v38 : Ref sig .tc := ⟨.hbm, 135, rfl⟩
abbrev main_cst_13 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_cst_14 : Ref sig .tc := ⟨.hbm, 145, rfl⟩
abbrev main_v47 : Ref sig .tc := ⟨.hbm, 146, rfl⟩
abbrev main_v48 : Ref sig .tc := ⟨.hbm, 147, rfl⟩
abbrev main_cst_15 : Ref sig .tc := ⟨.hbm, 148, rfl⟩
abbrev main_v49 : Ref sig .tc := ⟨.hbm, 149, rfl⟩
abbrev main_v50 : Ref sig .tc := ⟨.hbm, 150, rfl⟩
abbrev main_v51 : Ref sig .tc := ⟨.hbm, 151, rfl⟩
abbrev main_v52 : Ref sig .tc := ⟨.hbm, 152, rfl⟩
abbrev main_v53 : Ref sig .tc := ⟨.hbm, 153, rfl⟩
abbrev main_v54 : Ref sig .tc := ⟨.hbm, 154, rfl⟩
abbrev main_cst_16 : Ref sig .tc := ⟨.hbm, 155, rfl⟩
abbrev main_v55 : Ref sig .tc := ⟨.hbm, 156, rfl⟩
abbrev main_v56 : Ref sig .tc := ⟨.hbm, 157, rfl⟩
abbrev main_cst_17 : Ref sig .tc := ⟨.hbm, 158, rfl⟩
abbrev main_v57 : Ref sig .tc := ⟨.hbm, 159, rfl⟩
abbrev main_v58 : Ref sig .tc := ⟨.hbm, 160, rfl⟩
abbrev main_c_18 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_cst_0 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_v6 : Ref sig .tc := ⟨.hbm, 170, rfl⟩
abbrev main_call3_v7 : Ref sig .tc := ⟨.hbm, 171, rfl⟩
abbrev main_call3_cst_1 : Ref sig .tc := ⟨.hbm, 172, rfl⟩
abbrev main_call3_v8 : Ref sig .tc := ⟨.hbm, 173, rfl⟩
abbrev main_call3_cst_2 : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_v12 : Ref sig .tc := ⟨.hbm, 178, rfl⟩
abbrev main_call3_cst_3 : Ref sig .tc := ⟨.hbm, 179, rfl⟩
abbrev main_call3_v13 : Ref sig .tc := ⟨.hbm, 180, rfl⟩
abbrev main_call3_cst_4 : Ref sig .tc := ⟨.hbm, 181, rfl⟩
abbrev main_call3_call0_v0 : Ref sig .tc := ⟨.hbm, 182, rfl⟩
abbrev main_call3_call0_v1 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_cst_19 : Ref sig .tc := ⟨.hbm, 187, rfl⟩
abbrev main_v62 : Ref sig .tc := ⟨.hbm, 188, rfl⟩
abbrev main_v63 : Ref sig .tc := ⟨.hbm, 189, rfl⟩
abbrev main_v64 : Ref sig .tc := ⟨.hbm, 190, rfl⟩
abbrev main_v65 : Ref sig .tc := ⟨.hbm, 191, rfl⟩
abbrev main_v66 : Ref sig .tc := ⟨.hbm, 192, rfl⟩
abbrev main_v67 : Ref sig .tc := ⟨.hbm, 193, rfl⟩
abbrev main_v68 : Ref sig .tc := ⟨.hbm, 194, rfl⟩
abbrev main_v69 : Ref sig .tc := ⟨.hbm, 195, rfl⟩
abbrev main_v70 : Ref sig .tc := ⟨.hbm, 196, rfl⟩
abbrev main_v71 : Ref sig .tc := ⟨.hbm, 197, rfl⟩
abbrev main_v72 : Ref sig .tc := ⟨.hbm, 198, rfl⟩
abbrev main_cst_20 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_cst_21 : Ref sig .tc := ⟨.hbm, 204, rfl⟩
abbrev main_v77 : Ref sig .tc := ⟨.hbm, 205, rfl⟩
abbrev main_v78 : Ref sig .tc := ⟨.hbm, 206, rfl⟩
abbrev main_cst_22 : Ref sig .tc := ⟨.hbm, 207, rfl⟩
abbrev main_v79 : Ref sig .tc := ⟨.hbm, 208, rfl⟩
abbrev main_v80 : Ref sig .tc := ⟨.hbm, 209, rfl⟩
abbrev main_cst_23 : Ref sig .tc := ⟨.hbm, 210, rfl⟩
abbrev main_v81 : Ref sig .tc := ⟨.hbm, 211, rfl⟩
abbrev main_v82 : Ref sig .tc := ⟨.hbm, 212, rfl⟩
abbrev main_cst_24 : Ref sig .tc := ⟨.hbm, 213, rfl⟩
abbrev main_v83 : Ref sig .tc := ⟨.hbm, 214, rfl⟩
abbrev main_v84 : Ref sig .tc := ⟨.hbm, 215, rfl⟩
abbrev main_v85 : Ref sig .tc := ⟨.hbm, 216, rfl⟩
abbrev main_cst_25 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_v89 : Ref sig .tc := ⟨.hbm, 221, rfl⟩
abbrev main_v90 : Ref sig .tc := ⟨.hbm, 222, rfl⟩
abbrev main_cst_26 : Ref sig .tc := ⟨.hbm, 223, rfl⟩
abbrev main_v91 : Ref sig .tc := ⟨.hbm, 224, rfl⟩
abbrev main_v92 : Ref sig .tc := ⟨.hbm, 225, rfl⟩
abbrev main_v93 : Ref sig .tc := ⟨.hbm, 226, rfl⟩
abbrev main_v94 : Ref sig .tc := ⟨.hbm, 227, rfl⟩
abbrev main_v95 : Ref sig .tc := ⟨.hbm, 228, rfl⟩
abbrev main_cst_27 : Ref sig .tc := ⟨.hbm, 229, rfl⟩
abbrev main_v96 : Ref sig .tc := ⟨.hbm, 230, rfl⟩
abbrev main_v97 : Ref sig .tc := ⟨.hbm, 231, rfl⟩
abbrev main_v98 : Ref sig .tc := ⟨.hbm, 232, rfl⟩
abbrev main_v99 : Ref sig .tc := ⟨.hbm, 233, rfl⟩
abbrev main_v100 : Ref sig .tc := ⟨.hbm, 234, rfl⟩
abbrev main_v101 : Ref sig .tc := ⟨.hbm, 235, rfl⟩
abbrev main_cst_28 : Ref sig .tc := ⟨.hbm, 236, rfl⟩
abbrev main_v102 : Ref sig .tc := ⟨.hbm, 237, rfl⟩
abbrev main_v103 : Ref sig .tc := ⟨.hbm, 238, rfl⟩
abbrev main_v104 : Ref sig .tc := ⟨.hbm, 239, rfl⟩
abbrev main_v105 : Ref sig .tc := ⟨.hbm, 240, rfl⟩
abbrev main_v106 : Ref sig .tc := ⟨.hbm, 241, rfl⟩
abbrev main_v107 : Ref sig .tc := ⟨.hbm, 242, rfl⟩
abbrev main_v108 : Ref sig .tc := ⟨.hbm, 243, rfl⟩
abbrev main_v109 : Ref sig .tc := ⟨.hbm, 244, rfl⟩
abbrev main_cst_29 : Ref sig .tc := ⟨.hbm, 245, rfl⟩
abbrev main_v110 : Ref sig .tc := ⟨.hbm, 246, rfl⟩
abbrev main_v111 : Ref sig .tc := ⟨.hbm, 247, rfl⟩
abbrev main_v112 : Ref sig .tc := ⟨.hbm, 248, rfl⟩
abbrev main_cst_30 : Ref sig .tc := ⟨.hbm, 249, rfl⟩
abbrev main_v113 : Ref sig .tc := ⟨.hbm, 250, rfl⟩
abbrev main_v114 : Ref sig .tc := ⟨.hbm, 251, rfl⟩
abbrev main_v115 : Ref sig .tc := ⟨.hbm, 252, rfl⟩
abbrev main_cst_31 : Ref sig .tc := ⟨.hbm, 253, rfl⟩
abbrev main_v116 : Ref sig .tc := ⟨.hbm, 254, rfl⟩
abbrev main_v117 : Ref sig .tc := ⟨.hbm, 255, rfl⟩
abbrev main_v118 : Ref sig .tc := ⟨.hbm, 256, rfl⟩
abbrev main_v119 : Ref sig .tc := ⟨.hbm, 257, rfl⟩
abbrev main_v120 : Ref sig .tc := ⟨.hbm, 258, rfl⟩
abbrev main_v121 : Ref sig .tc := ⟨.hbm, 259, rfl⟩
abbrev main_cst_32 : Ref sig .tc := ⟨.hbm, 260, rfl⟩
abbrev main_v122 : Ref sig .tc := ⟨.hbm, 261, rfl⟩
abbrev main_v123 : Ref sig .tc := ⟨.hbm, 262, rfl⟩
abbrev main_v124 : Ref sig .tc := ⟨.hbm, 263, rfl⟩
abbrev main_v125 : Ref sig .tc := ⟨.hbm, 264, rfl⟩
abbrev main_cst_33 : Ref sig .tc := ⟨.hbm, 265, rfl⟩
abbrev main_v126 : Ref sig .tc := ⟨.hbm, 266, rfl⟩
abbrev main_v127 : Ref sig .tc := ⟨.hbm, 267, rfl⟩
abbrev main_cst_34 : Ref sig .tc := ⟨.hbm, 268, rfl⟩
abbrev main_v128 : Ref sig .tc := ⟨.hbm, 269, rfl⟩
abbrev main_v129 : Ref sig .tc := ⟨.hbm, 270, rfl⟩
abbrev main_cst_35 : Ref sig .tc := ⟨.hbm, 271, rfl⟩
abbrev main_v130 : Ref sig .tc := ⟨.hbm, 272, rfl⟩
abbrev main_v131 : Ref sig .tc := ⟨.hbm, 273, rfl⟩
abbrev main_cst_36 : Ref sig .tc := ⟨.hbm, 274, rfl⟩
abbrev main_v132 : Ref sig .tc := ⟨.hbm, 275, rfl⟩
abbrev main_v133 : Ref sig .tc := ⟨.hbm, 276, rfl⟩
abbrev main_v134 : Ref sig .tc := ⟨.hbm, 277, rfl⟩
abbrev main_cst_37 : Ref sig .tc := ⟨.hbm, 278, rfl⟩
abbrev main_v135 : Ref sig .tc := ⟨.hbm, 279, rfl⟩
abbrev main_v136 : Ref sig .tc := ⟨.hbm, 280, rfl⟩
abbrev main_v137 : Ref sig .tc := ⟨.hbm, 281, rfl⟩
abbrev main_v138 : Ref sig .tc := ⟨.hbm, 282, rfl⟩
abbrev main_v139 : Ref sig .tc := ⟨.hbm, 283, rfl⟩
abbrev main_cst_38 : Ref sig .tc := ⟨.hbm, 284, rfl⟩
abbrev main_v140 : Ref sig .tc := ⟨.hbm, 285, rfl⟩
abbrev main_v141 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_cst_39 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_cst_40 : Ref sig .tc := ⟨.hbm, 297, rfl⟩
abbrev main_v151 : Ref sig .tc := ⟨.hbm, 298, rfl⟩
abbrev main_v152 : Ref sig .tc := ⟨.hbm, 299, rfl⟩
abbrev main_v153 : Ref sig .tc := ⟨.hbm, 300, rfl⟩
abbrev main_v154 : Ref sig .tc := ⟨.hbm, 301, rfl⟩
abbrev main_v155 : Ref sig .tc := ⟨.hbm, 302, rfl⟩
abbrev main_v156 : Ref sig .tc := ⟨.hbm, 303, rfl⟩
abbrev main_v157 : Ref sig .tc := ⟨.hbm, 304, rfl⟩
abbrev main_v158 : Ref sig .tc := ⟨.hbm, 305, rfl⟩
abbrev main_cst_41 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_cst_42 : Ref sig .tc := ⟨.hbm, 310, rfl⟩
abbrev main_v162 : Ref sig .tc := ⟨.hbm, 311, rfl⟩
abbrev main_v163 : Ref sig .tc := ⟨.hbm, 312, rfl⟩
abbrev main_v164 : Ref sig .tc := ⟨.hbm, 313, rfl⟩
abbrev main_cst_43 : Ref sig .tc := ⟨.hbm, 314, rfl⟩
abbrev main_v165 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_v169 : Ref sig .tc := ⟨.hbm, 319, rfl⟩
abbrev main_v170 : Ref sig .tc := ⟨.hbm, 320, rfl⟩
abbrev main_cst_44 : Ref sig .tc := ⟨.hbm, 321, rfl⟩
abbrev main_v171 : Ref sig .tc := ⟨.hbm, 322, rfl⟩
abbrev main_cst_45 : Ref sig .tc := ⟨.hbm, 323, rfl⟩
abbrev main_v172 : Ref sig .tc := ⟨.hbm, 324, rfl⟩
abbrev main_v173 : Ref sig .tc := ⟨.hbm, 325, rfl⟩
abbrev main_v174 : Ref sig .tc := ⟨.hbm, 326, rfl⟩
abbrev main_v175 : Ref sig .tc := ⟨.hbm, 327, rfl⟩
abbrev main_v176 : Ref sig .tc := ⟨.hbm, 328, rfl⟩
abbrev main_v177 : Ref sig .tc := ⟨.hbm, 329, rfl⟩
abbrev main_cst_46 : Ref sig .tc := ⟨.hbm, 330, rfl⟩
abbrev main_v178 : Ref sig .tc := ⟨.hbm, 331, rfl⟩
abbrev main_v179 : Ref sig .tc := ⟨.hbm, 332, rfl⟩
abbrev main_v180 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_v184 : Ref sig .tc := ⟨.hbm, 337, rfl⟩
abbrev main_v185 : Ref sig .tc := ⟨.hbm, 338, rfl⟩
abbrev main_v186 : Ref sig .tc := ⟨.hbm, 339, rfl⟩
abbrev main_v187 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_v191 : Ref sig .tc := ⟨.hbm, 344, rfl⟩
abbrev main_v192 : Ref sig .tc := ⟨.hbm, 345, rfl⟩
abbrev main_v193 : Ref sig .tc := ⟨.hbm, 346, rfl⟩
abbrev main_v194 : Ref sig .tc := ⟨.hbm, 347, rfl⟩
abbrev main_v195 : Ref sig .tc := ⟨.hbm, 348, rfl⟩
abbrev main_v196 : Ref sig .tc := ⟨.hbm, 349, rfl⟩
abbrev main_v197 : Ref sig .tc := ⟨.hbm, 350, rfl⟩
abbrev main_v198 : Ref sig .tc := ⟨.hbm, 351, rfl⟩
abbrev main_v199 : Ref sig .tc := ⟨.hbm, 352, rfl⟩
abbrev main_v200 : Ref sig .tc := ⟨.hbm, 353, rfl⟩
abbrev main_v201 : Ref sig .tc := ⟨.hbm, 354, rfl⟩
abbrev main_cst_47 : Ref sig .tc := ⟨.hbm, 355, rfl⟩
abbrev main_call5_v0 : Ref sig .tc := ⟨.hbm, 356, rfl⟩
abbrev main_call5_v1 : Ref sig .tc := ⟨.hbm, 357, rfl⟩
abbrev main_call5_v2 : Ref sig .tc := ⟨.hbm, 358, rfl⟩
abbrev main_v202 : Ref sig .tc := ⟨.hbm, 359, rfl⟩
abbrev main_cst_48 : Ref sig .tc := ⟨.hbm, 360, rfl⟩
abbrev main_v203 : Ref sig .tc := ⟨.hbm, 361, rfl⟩
abbrev main_v204 : Ref sig .tc := ⟨.hbm, 362, rfl⟩
abbrev main_v205 : Ref sig .tc := ⟨.hbm, 363, rfl⟩
abbrev main_v206 : Ref sig .tc := ⟨.hbm, 364, rfl⟩
abbrev main_cst_49 : Ref sig .tc := ⟨.hbm, 365, rfl⟩
abbrev main_v207 : Ref sig .tc := ⟨.hbm, 366, rfl⟩
abbrev main_v208 : Ref sig .tc := ⟨.hbm, 367, rfl⟩
abbrev main_v209 : Ref sig .tc := ⟨.hbm, 368, rfl⟩
abbrev main_v210 : Ref sig .tc := ⟨.hbm, 369, rfl⟩
abbrev main_cst_50 : Ref sig .tc := ⟨.hbm, 370, rfl⟩
abbrev main_v211 : Ref sig .tc := ⟨.hbm, 371, rfl⟩
abbrev main_v212 : Ref sig .tc := ⟨.hbm, 372, rfl⟩
abbrev main_cst_51 : Ref sig .tc := ⟨.hbm, 373, rfl⟩
abbrev main_v213 : Ref sig .tc := ⟨.hbm, 374, rfl⟩
abbrev main_v214 : Ref sig .tc := ⟨.hbm, 375, rfl⟩
abbrev main_v215 : Ref sig .tc := ⟨.hbm, 376, rfl⟩
abbrev main_v216 : Ref sig .tc := ⟨.hbm, 377, rfl⟩
abbrev main_v217 : Ref sig .tc := ⟨.hbm, 378, rfl⟩

abbrev nD : Nat := 1
abbrev τ : Topo := Topo.v7x

variable {F : FTy → Type} [FloatOps F]
-- ==== Proof.Run.lean ====
/-
  The kernel program's run with its results: from any memory with zero counters the program ends with every buffer
  at the contents the generated frame's fold gives it, so each result array is known as the last boundary's contents,
  and the arguments are unchanged.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and at the end the two result arrays and the thirteen arguments hold what
    the last boundary of the fold says. -/
theorem run_at_end : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v4 (by decide)), h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.Gen

end
-- ==== Proof.MaskRead.lean ====
/-
  What the first kernel leaves in its one output block, as the payload terms of the twelve input blocks.
-/
module

public import proofs.«01_k».proof.Proof.Gen.KernelIdeal.Frame
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F] [Named F]

variable (V : (c : Dev nD) → (b : Ref sig .tc) → Buf (Elt F) ((c : Thread nD τ).loc b))

/-- The softmax weights the kernel computes from the description, the three layers' weights and biases. -/
def kW (x3 : Vec F S16x1536 .f32) (x4 : Vec F S1536x256 .f32) (x5 x6 x7 : Vec F S256 .f32) (x8 : Vec F S256x64 .f32)
    (x9 : Vec F S64 .f32) (x10 : Vec F S64x3 .f32) (x11 : Vec F S3 .f32) : FVec F S16x3 .f32 :=
  let h := k0_pay14 x3 x4 x5
  let s := k0_pay15 x3 x4 x5
  let a := k0_pay18 h s k0_pay16 x6 x7
  let b := k0_pay20 h s k0_pay16 x6 x7
  let d := k0_pay21 h s k0_pay16 x6 x7
  let e := k0_pay22 h s k0_pay16 x6 x7
  let f := k0_pay23 h s k0_pay16 x6 x7
  let q : F .f32 := Scalar.ofBits .f32 0xBFBA00E3#32
  k0_pay30 (k0_pay25 a b d e f q x8 x9) (k0_pay27 a b d e f q x8 x9) (k0_pay28 a b d e f q x8 x9)
    (k0_pay29 a b d e f q x8 x9) (Scalar.ofBits .f32 0x3F800000#32) x10 x11

/-- The first column of the weights. -/
def kW0 (x3 : Vec F S16x1536 .f32) (x4 : Vec F S1536x256 .f32) (x5 x6 x7 : Vec F S256 .f32) (x8 : Vec F S256x64 .f32)
    (x9 : Vec F S64 .f32) (x10 : Vec F S64x3 .f32) (x11 : Vec F S3 .f32) : FVec F S16x1 .f32 :=
  extractStridedSlice S16x1 ![0, 0] (kW x3 x4 x5 x6 x7 x8 x9 x10 x11) slices_S16x3_o0_0_S16x1

/-- The bounds of the bisection after the thirty-one trips. -/
def kBounds (v23 v47 v71 : FVec F S16x4096 .f32) (v219 : FVec F S16x3 .f32) (v220 : FVec F S16x1 .f32) :
    IVec S16x1 32 × IVec S16x1 32 :=
  Scf.fold (fun (_ : Fin k0_t1_loop.trips) (s : IVec S16x1 32 × IVec S16x1 32) =>
    (k0_pay6 v23 v47 v71 v219 v220 s.1 s.2, k0_pay7 v23 v47 v71 v219 v220 s.1 s.2)) (k0_pay2, k0_pay3)

/-- The mask the first kernel stores, of its twelve inputs. -/
def kMask (x0 x1 x2 : Vec F S16x4096 .f32) (x3 : Vec F S16x1536 .f32) (x4 : Vec F S1536x256 .f32) (x5 x6 x7 : Vec F S256 .f32)
    (x8 : Vec F S256x64 .f32) (x9 : Vec F S64 .f32) (x10 : Vec F S64x3 .f32) (x11 : Vec F S3 .f32) : FVec F S16x4096 .f32 :=
  let v23 := k0_pay9 x0
  let v47 := k0_pay12 (k0_pay10 x1) k0_pay11
  let v71 := k0_pay13 x2
  let v219 := kW x3 x4 x5 x6 x7 x8 x9 x10 x11
  let v220 := kW0 x3 x4 x5 x6 x7 x8 x9 x10 x11
  k0_pay8 v23 v47 v71 v219 v220 (kBounds v23 v47 v71 v219 v220).2

/-- After the first kernel's one point its output block holds the mask of the twelve input blocks. -/
theorem outsAt0_eq (c : Dev nD) (t : Fin cfg0.N) : outsAt0 V c t = kMask (iblk0 V c 0 t) (iblk0 V c 1 t) (iblk0 V c 2 t)
    (iblk0 V c 3 t) (iblk0 V c 4 t) (iblk0 V c 5 t) (iblk0 V c 6 t) (iblk0 V c 7 t) (iblk0 V c 8 t) (iblk0 V c 9 t)
    (iblk0 V c 10 t) (iblk0 V c 11 t) := by
  unfold outsAt0 out0_A_12
  rw [View.read_writes_eq_canon _ _ _ (cover0_A_12 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread]
  have z2 : (![0, 0] : Fin 2 → ℕ) = fun _ => 0 := by funext i; fin_cases i <;> rfl
  have z1 : (![0] : Fin 1 → ℕ) = fun _ => 0 := by funext i; fin_cases i; rfl
  have e0 := View.ld_unit_zero (S := S16x4096) z2 inb_S16x4096_S16x4096_0_0 (iblk0 V c 0 t)
  have e1 := View.ld_unit_zero (S := S16x4096) z2 inb_S16x4096_S16x4096_0_0 (iblk0 V c 1 t)
  have e2 := View.ld_unit_zero (S := S16x4096) z2 inb_S16x4096_S16x4096_0_0 (iblk0 V c 2 t)
  have e3 := View.ld_unit_zero (S := S16x1536) z2 inb_S16x1536_S16x1536_0_0 (iblk0 V c 3 t)
  have e4 := View.ld_unit_zero (S := S1536x256) z2 inb_S1536x256_S1536x256_0_0 (iblk0 V c 4 t)
  have e5 := View.ld_unit_zero (S := S256) z1 inb_S256_S256_0 (iblk0 V c 5 t)
  have e6 := View.ld_unit_zero (S := S256) z1 inb_S256_S256_0 (iblk0 V c 6 t)
  have e7 := View.ld_unit_zero (S := S256) z1 inb_S256_S256_0 (iblk0 V c 7 t)
  have e8 := View.ld_unit_zero (S := S256x64) z2 inb_S256x64_S256x64_0_0 (iblk0 V c 8 t)
  have e9 := View.ld_unit_zero (S := S64) z1 inb_S64_S64_0 (iblk0 V c 9 t)
  have e10 := View.ld_unit_zero (S := S64x3) z2 inb_S64x3_S64x3_0_0 (iblk0 V c 10 t)
  have e11 := View.ld_unit_zero (S := S3) z1 inb_S3_S3_0 (iblk0 V c 11 t)
  dsimp only [S16x4096, S16x1536, S1536x256, S256, S256x64, S64, S64x3, S3] at e0 e1 e2 e3 e4 e5 e6 e7 e8 e9 e10 e11
  simp only [e0, e1, e2, e3, e4, e5, e6, e7, e8, e9, e10, e11]
  refine (View.canon_unit_zero (S := S16x4096) z2 _ _).trans ?_
  rfl

end Cert.KernelIdeal.Gen

end
-- ==== Proof.Arrays.lean ====
/-
  What the two regions leave in their output arrays.
-/
module

public import proofs.«01_k».proof.Proof.MaskRead
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F] [Named F]

variable (m : (ℓ : Loc nD τ sig) → Buf (Elt F) ℓ) (ρ : Dev nD → PrngReg)
variable (V : (c : Dev nD) → (b : Ref sig .tc) → Buf (Elt F) ((c : Thread nD τ).loc b))

/-- Input block 0 of the first kernel is its whole array. -/
theorem iblk0_at_0 (c : Dev nD) (t : Fin cfg0.N) : iblk0 V c 0 t = V c main_arg1 := by
  have e : ∀ (t : Fin cfg0.N) a, win0_0.index t a = 0 := by decide +kernel
  funext y; blk_ext [iblk0, e]
/-- Input block 1 of the first kernel is its whole array. -/
theorem iblk0_at_1 (c : Dev nD) (t : Fin cfg0.N) : iblk0 V c 1 t = V c main_arg2 := by
  have e : ∀ (t : Fin cfg0.N) a, win0_1.index t a = 0 := by decide +kernel
  funext y; blk_ext [iblk0, e]
/-- Input block 2 of the first kernel is its whole array. -/
theorem iblk0_at_2 (c : Dev nD) (t : Fin cfg0.N) : iblk0 V c 2 t = V c main_arg3 := by
  have e : ∀ (t : Fin cfg0.N) a, win0_2.index t a = 0 := by decide +kernel
  funext y; blk_ext [iblk0, e]
/-- Input block 3 of the first kernel is its whole array. -/
theorem iblk0_at_3 (c : Dev nD) (t : Fin cfg0.N) : iblk0 V c 3 t = V c main_arg4 := by
  have e : ∀ (t : Fin cfg0.N) a, win0_3.index t a = 0 := by decide +kernel
  funext y; blk_ext [iblk0, e]
/-- Input block 4 of the first kernel is its whole array. -/
theorem iblk0_at_4 (c : Dev nD) (t : Fin cfg0.N) : iblk0 V c 4 t = V c main_arg5 := by
  have e : ∀ (t : Fin cfg0.N) a, win0_4.index t a = 0 := by decide +kernel
  funext y; blk_ext [iblk0, e]
/-- Input block 5 of the first kernel is its whole array. -/
theorem iblk0_at_5 (c : Dev nD) (t : Fin cfg0.N) : iblk0 V c 5 t = V c main_arg6 := by
  have e : ∀ (t : Fin cfg0.N) a, win0_5.index t a = 0 := by decide +kernel
  funext y; blk_ext [iblk0, e]
/-- Input block 6 of the first kernel is its whole array. -/
theorem iblk0_at_6 (c : Dev nD) (t : Fin cfg0.N) : iblk0 V c 6 t = V c main_arg7 := by
  have e : ∀ (t : Fin cfg0.N) a, win0_6.index t a = 0 := by decide +kernel
  funext y; blk_ext [iblk0, e]
/-- Input block 7 of the first kernel is its whole array. -/
theorem iblk0_at_7 (c : Dev nD) (t : Fin cfg0.N) : iblk0 V c 7 t = V c main_arg8 := by
  have e : ∀ (t : Fin cfg0.N) a, win0_7.index t a = 0 := by decide +kernel
  funext y; blk_ext [iblk0, e]
/-- Input block 8 of the first kernel is its whole array. -/
theorem iblk0_at_8 (c : Dev nD) (t : Fin cfg0.N) : iblk0 V c 8 t = V c main_arg9 := by
  have e : ∀ (t : Fin cfg0.N) a, win0_8.index t a = 0 := by decide +kernel
  funext y; blk_ext [iblk0, e]
/-- Input block 9 of the first kernel is its whole array. -/
theorem iblk0_at_9 (c : Dev nD) (t : Fin cfg0.N) : iblk0 V c 9 t = V c main_arg10 := by
  have e : ∀ (t : Fin cfg0.N) a, win0_9.index t a = 0 := by decide +kernel
  funext y; blk_ext [iblk0, e]
/-- Input block 10 of the first kernel is its whole array. -/
theorem iblk0_at_10 (c : Dev nD) (t : Fin cfg0.N) : iblk0 V c 10 t = V c main_arg11 := by
  have e : ∀ (t : Fin cfg0.N) a, win0_10.index t a = 0 := by decide +kernel
  funext y; blk_ext [iblk0, e]
/-- Input block 11 of the first kernel is its whole array. -/
theorem iblk0_at_11 (c : Dev nD) (t : Fin cfg0.N) : iblk0 V c 11 t = V c main_arg12 := by
  have e : ∀ (t : Fin cfg0.N) a, win0_11.index t a = 0 := by decide +kernel
  funext y; blk_ext [iblk0, e]

/-- The mask array after the first region: the mask of the twelve input arrays. -/
theorem arr0 (c : Dev nD) : (dat0 V c).arrAt 12 cfg0.N = kMask (V c main_arg1) (V c main_arg2) (V c main_arg3) (V c main_arg4)
    (V c main_arg5) (V c main_arg6) (V c main_arg7) (V c main_arg8) (V c main_arg9) (V c main_arg10) (V c main_arg11)
    (V c main_arg12) := by
  refine (dat0 V c).arrAt_eq_of_covers 12 _ (by decide +kernel) fun t hf y => ?_
  blk_simp
  rw [after0_12, outsAt0_eq, iblk0_at_0, iblk0_at_1, iblk0_at_2, iblk0_at_3, iblk0_at_4, iblk0_at_5, iblk0_at_6, iblk0_at_7,
    iblk0_at_8, iblk0_at_9, iblk0_at_10, iblk0_at_11]
  have e : ∀ (t : Fin cfg0.N) a, win0_12.index t a = 0 := by decide +kernel
  blk_ext [e]

/-- The product array: each row of the first array times the mask's element of that row. -/
def prodRows (X : Vec F S65536x512 .f32) (M : Vec F S16x1x4096 .f32) : Vec F S65536x512 .f32 := fun i =>
  FloatOps.mulf (X i) (M (ix3 ⟨(i 0).val / 4096, by have := (i 0).isLt; dsimp at this; omega⟩ 0 ⟨(i 0).val % 4096, by omega⟩))

theorem arr1 (c : Dev nD) : (dat1 V c).arrAt 2 cfg1.N = prodRows (V c main_v1) (V c main_v2) := by
  refine (dat1 V c).arrAt_eq_of_covers 2 _ (by decide +kernel) fun t hf y => ?_
  have e00 : ∀ t : Fin cfg1.N, win1_0.index t 0 = t.val := by decide +kernel
  have e01 : ∀ t : Fin cfg1.N, win1_0.index t 1 = 0 := by decide +kernel
  have e10 : ∀ t : Fin cfg1.N, win1_1.index t 0 = t.val := by decide +kernel
  have e11 : ∀ t : Fin cfg1.N, win1_1.index t 1 = 0 := by decide +kernel
  have e12 : ∀ t : Fin cfg1.N, win1_1.index t 2 = 0 := by decide +kernel
  have e20 : ∀ t : Fin cfg1.N, win1_2.index t 0 = t.val := by decide +kernel
  have e21 : ∀ t : Fin cfg1.N, win1_2.index t 1 = 0 := by decide +kernel
  blk_simp
  rw [after1_2]
  frame_out
  unfold prodRows
  idx_vars y
  pointwise [k1_pay1]
  congr 1
  blk_ext [iblk1, e10, e11, e12, e20, e21]

/-- The mask result at the end, of the launch contents. -/
def maskOf (c : Dev nD) : FVec F S16x4096 .f32 :=
  kMask (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))

/-- After the first region the mask array holds the mask of the arguments. -/
theorem W1_mask (c : Dev nD) : W1 m ρ c (Proc.devRef .tc main_v0) = maskOf m c :=
  (W1_arr m ρ c 12).trans (arr0 (V0 m ρ) c)

/-- At the end the mask result holds the mask of the arguments. -/
theorem W4_mask (c : Dev nD) : W4 m ρ c (Proc.devRef .tc main_v0) = maskOf m c := by
  rw [W4_of m ρ c main_v0 (by decide), W3_of m ρ c main_v0 (by decide), W2_of m ρ c main_v0 (by decide)]
  exact W1_mask m ρ c

/-- The second region's first operand: the first argument at the shape of its rows. -/
theorem W2_x (c : Dev nD) : W2 m ρ c (Proc.devRef .tc main_v1)
    = shapeCast S65536x512 (m ((c : Thread nD τ).loc main_arg0)) shapeCasts_S16x4096x512_S65536x512 := by
  have h : W2 m ρ c = StableHlo.after hostOps1 (W1 m ρ c) := rfl
  rw [h, StableHlo.after_cons, StableHlo.after_cons, StableHlo.after_nil, StableHlo.reshape_result_ne (r := main_v1),
    StableHlo.reshape_result, W1_of m ρ c main_arg0 (by decide)]
  · rfl
  · decide

/-- The second region's second operand: the mask at the shape of its blocks. -/
theorem W2_m (c : Dev nD) : W2 m ρ c (Proc.devRef .tc main_v2)
    = shapeCast S16x1x4096 (maskOf m c) shapeCasts_S16x4096_S16x1x4096 := by
  have h : W2 m ρ c = StableHlo.after hostOps1 (W1 m ρ c) := rfl
  rw [h, StableHlo.after_cons, StableHlo.after_cons, StableHlo.after_nil, StableHlo.reshape_result,
    StableHlo.reshape_result_ne (r := main_v0), W1_mask]
  · rfl
  · decide

/-- The product result: the second region's array at the shape of the first argument. -/
theorem W4_out (c : Dev nD) : W4 m ρ c (Proc.devRef .tc main_v4)
    = shapeCast S16x4096x512 (W3 m ρ c (Proc.devRef .tc main_v3)) shapeCasts_S65536x512_S16x4096x512 := by
  have h : W4 m ρ c = StableHlo.after hostOps2 (W3 m ρ c) := rfl
  rw [h, StableHlo.after_cons, StableHlo.after_nil, StableHlo.reshape_result]
  rfl

/-- At the end the product result holds, at each index, the first argument times the mask of its row. -/
theorem W4_prod (c : Dev nD) (b : Fin 16) (t : Fin 4096) (l : Fin 512) : (W4 m ρ c (Proc.devRef .tc main_v4) : Vec F S16x4096x512 .f32) (ix3 b t l)
    = FloatOps.mulf ((m ((c : Thread nD τ).loc main_arg0) : Vec F S16x4096x512 .f32) (ix3 b t l)) (maskOf m c (ix2 b t)) := by
  rw [W4_out, show W3 m ρ c (Proc.devRef .tc main_v3) = prodRows (V2 m ρ c main_v1) (V2 m ρ c main_v2) from
    (W3_arr m ρ c 2).trans (arr1 (V2 m ρ) c)]
  rw [show V2 m ρ c main_v1 = _ from W2_x m ρ c, show V2 m ρ c main_v2 = _ from W2_m m ρ c]
  have hr : b.val * 4096 + t.val < 65536 := by omega
  refine (shapeCast_apply (s := S65536x512) (t := S16x4096x512) _ _ _ (ix2 ⟨b.val * 4096 + t.val, hr⟩ l) ?_).trans ?_
  · rw [Shape.rowMajor_val_two, Shape.rowMajor_val_three]
    show (b.val * 4096 + t.val) * 512 + l.val = (b.val * 4096 + t.val) * 512 + l.val
    rfl
  · unfold prodRows
    refine congrArg₂ FloatOps.mulf (shapeCast_apply (s := S16x4096x512) (t := S65536x512) _ _ _ (ix3 b t l) ?_)
      (shapeCast_apply (s := S16x4096) (t := S16x1x4096) _ _ _ (ix2 b t) ?_)
    · rw [Shape.rowMajor_val_two, Shape.rowMajor_val_three]
      show (b.val * 4096 + t.val) * 512 + l.val = (b.val * 4096 + t.val) * 512 + l.val
      rfl
    · rw [Shape.rowMajor_val_two, Shape.rowMajor_val_three]
      show b.val * 4096 + t.val = ((b.val * 4096 + t.val) / 4096 * 1 + 0) * 4096 + (b.val * 4096 + t.val) % 4096
      omega

end Cert.KernelIdeal.Gen

end
-- ==== Proof.Consts.lean ====
/-
  The real numbers that the float constants of the two programs denote, each read once from its bit pattern.
-/
module

public import Idealize.ShloMosaic.PureOps.Ideal
public import Idealize.ShloMosaic.PureOps.Ideal.Laws

@[expose] public section

noncomputable section

namespace Cert.Proof

open Idealize.ShloMosaic

/-- The five coefficients of the polynomial, its argument's coefficient and the temperature, as real numbers. -/
def c1 : ℝ := 8550662 / 2 ^ 25
def c2 : ℝ := 9546126 / 2 ^ 25
def c3 : ℝ := 11923683 / 2 ^ 23
def c4 : ℝ := 12189923 / 2 ^ 23
def c5 : ℝ := 8903714 / 2 ^ 23
def cp : ℝ := 10992133 / 2 ^ 25
def temp : ℝ := 10066330 / 2 ^ 25

theorem ofBits_zero : Ideal.ofBits .f32 0x00000000#32 = 0 := by
  simp [Ideal.ofBits, Ideal.ieee, -EReal.coe_mul]
theorem ofBits_one : Ideal.ofBits .f32 0x3F800000#32 = 1 := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num
theorem ofBits_4095 : Ideal.ofBits .f32 0x457FF000#32 = ((4095 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_neg_inf : Ideal.ofBits .f32 0xFF800000#32 = ⊥ := by
  simp [Ideal.ofBits, Ideal.ieee]
theorem ofBits_inf : Ideal.ofBits .f32 0x7F800000#32 = ⊤ := by
  simp [Ideal.ofBits, Ideal.ieee]
theorem ofBits_minus_one_word : Ideal.ofBits .f32 0xFFFFFFFF#32 = ⊥ := by
  simp [Ideal.ofBits, Ideal.ieee]
theorem ofBits_c1 : Ideal.ofBits .f32 0x3E827906#32 = ((c1 : ℝ) : EReal) := by
  simp [Ideal.ofBits, Ideal.ieee, c1, -EReal.coe_mul]; norm_num
theorem ofBits_c2 : Ideal.ofBits .f32 0x3E91A98E#32 = ((c2 : ℝ) : EReal) := by
  simp [Ideal.ofBits, Ideal.ieee, c2, -EReal.coe_mul]; norm_num
theorem ofBits_neg_c2 : Ideal.ofBits .f32 0xBE91A98E#32 = ((-c2 : ℝ) : EReal) := by
  simp [Ideal.ofBits, Ideal.ieee, c2, -EReal.coe_mul, -EReal.coe_neg]; norm_num
theorem ofBits_c3 : Ideal.ofBits .f32 0x3FB5F0E3#32 = ((c3 : ℝ) : EReal) := by
  simp [Ideal.ofBits, Ideal.ieee, c3, -EReal.coe_mul]; norm_num
theorem ofBits_c4 : Ideal.ofBits .f32 0x3FBA00E3#32 = ((c4 : ℝ) : EReal) := by
  simp [Ideal.ofBits, Ideal.ieee, c4, -EReal.coe_mul]; norm_num
theorem ofBits_neg_c4 : Ideal.ofBits .f32 0xBFBA00E3#32 = ((-c4 : ℝ) : EReal) := by
  simp [Ideal.ofBits, Ideal.ieee, c4, -EReal.coe_mul, -EReal.coe_neg]; norm_num
theorem ofBits_c5 : Ideal.ofBits .f32 0x3F87DC22#32 = ((c5 : ℝ) : EReal) := by
  simp [Ideal.ofBits, Ideal.ieee, c5, -EReal.coe_mul]; norm_num
theorem ofBits_cp : Ideal.ofBits .f32 0x3EA7BA05#32 = ((cp : ℝ) : EReal) := by
  simp [Ideal.ofBits, Ideal.ieee, cp, -EReal.coe_mul]; norm_num
theorem ofBits_temp : Ideal.ofBits .f32 0x3E99999A#32 = ((temp : ℝ) : EReal) := by
  simp [Ideal.ofBits, Ideal.ieee, temp, -EReal.coe_mul]; norm_num

/-- The square root of two, as the host takes it. -/
theorem sqrt_two : Ideal.sqrt ((2 : ℝ) : EReal) = ((Real.sqrt 2 : ℝ) : EReal) :=
  if_neg (by norm_num)

/-- The small number added to a deviation is a positive real number. -/
theorem ofBits_eps : ∃ e : ℝ, 0 < e ∧ Ideal.ofBits .f32 0x3727C5AC#32 = (e : EReal) := by
  refine ⟨10995116 / 2 ^ 40, by positivity, ?_⟩
  simp [Ideal.ofBits, Ideal.ieee, -EReal.coe_mul]; norm_num

end Cert.Proof

end
-- ==== Proof.Scalars.lean ====
/-
  The scalar mathematics over the extended reals: the logistic function's range, and the activation as the two programs
  write it — the kernel's Horner form and the reference's sum of powers — being one function.
-/
module

public import proofs.«01_k».proof.Proof.Consts

@[expose] public section

noncomputable section

namespace Cert.Proof

open Idealize.ShloMosaic

/-- The logistic function, as a quotient. -/
def sigm (z : EReal) : EReal := Ideal.div 1 (1 + Ideal.exp (-z))

theorem exp_nonneg (z : EReal) : 0 ≤ Ideal.exp z := by
  induction z with
  | bot => exact le_refl (0 : EReal)
  | top => exact (le_top : (0 : EReal) ≤ ⊤)
  | coe r => exact (by exact_mod_cast (Real.exp_pos r).le : (0 : EReal) ≤ ((Real.exp r : ℝ) : EReal))

/-- One over a number at least one is a real number in [0, 1]. -/
theorem one_div_of_one_le (y : EReal) (hy : 1 ≤ y) :
    ∃ t : ℝ, 0 ≤ t ∧ t ≤ 1 ∧ Ideal.div 1 y = (t : EReal) := by
  have h0 : y ≠ 0 := fun h => by rw [h] at hy; exact absurd hy (by norm_num)
  induction y with
  | bot => exact absurd hy (not_le.mpr (EReal.bot_lt_coe 1))
  | top => exact ⟨0, le_refl _, zero_le_one, by simp [Ideal.div]⟩
  | coe r =>
    have hr : (1 : ℝ) ≤ r := by exact_mod_cast hy
    have hr0 : r ≠ 0 := by positivity
    refine ⟨1 / r, by positivity, by rw [div_le_one (by positivity)]; exact hr, ?_⟩
    rw [Ideal.div_coe hr0, one_mul]

theorem one_le_one_add (e : EReal) (he : 0 ≤ e) : (1 : EReal) ≤ 1 + e := by
  simpa using add_le_add (le_refl (1 : EReal)) he

/-- The logistic function's values are real numbers in [0, 1]. -/
theorem sigm_range (z : EReal) : ∃ t : ℝ, 0 ≤ t ∧ t ≤ 1 ∧ sigm z = (t : EReal) :=
  one_div_of_one_le _ (one_le_one_add _ (exp_nonneg _))

theorem absf_nonneg (a : EReal) : 0 ≤ max a (-a) := by
  rcases le_total 0 a with h | h
  · exact le_max_of_le_left h
  · exact le_max_of_le_right (by simpa using EReal.neg_le_neg_iff.mpr h)

/-- The absolute value times itself is the square. -/
theorem absf_mul_absf (a : EReal) : max a (-a) * max a (-a) = a * a := by
  rcases le_total a (-a) with h | h
  · rw [max_eq_right h, EReal.neg_mul, EReal.mul_comm, EReal.neg_mul, neg_neg]
  · rw [max_eq_left h]

/-- The argument of the polynomial: one over one plus a multiple of the absolute value. -/
def tOf (ab : EReal) : EReal := Ideal.div 1 (1 + (cp : EReal) * ab)

theorem tOf_real (ab : EReal) (h : 0 ≤ ab) : ∃ t : ℝ, tOf ab = (t : EReal) := by
  have hc : (0 : EReal) ≤ (cp : EReal) := by
    have : (0 : ℝ) ≤ cp := by unfold cp; positivity
    exact_mod_cast this
  obtain ⟨t, -, -, ht⟩ := one_div_of_one_le (1 + (cp : EReal) * ab) (one_le_one_add _ (mul_nonneg hc h))
  exact ⟨t, ht⟩

/-- The error function's approximation in the kernel's form: Horner's polynomial, the exponential of `(0 - |a|) * |a|`. -/
def erfK (a ab : EReal) : EReal :=
  Ideal.sign a * (1 - (((((c5 : EReal) * tOf ab + ((-c4 : ℝ) : EReal)) * tOf ab + (c3 : EReal)) * tOf ab + ((-c2 : ℝ) : EReal))
    * tOf ab + (c1 : EReal)) * tOf ab * Ideal.exp ((0 - ab) * ab))

/-- The same in the reference's form: the sum of powers, the exponential of `-(a * a)`. -/
def erfR (a ab : EReal) : EReal :=
  Ideal.sign a * (1 - ((c1 : EReal) * tOf ab - (c2 : EReal) * (tOf ab * tOf ab) + (c3 : EReal) * (tOf ab * tOf ab * tOf ab)
    - (c4 : EReal) * (tOf ab * tOf ab * (tOf ab * tOf ab))
    + (c5 : EReal) * (tOf ab * (tOf ab * tOf ab * (tOf ab * tOf ab)))) * Ideal.exp (-(a * a)))

theorem erfK_eq_erfR (a : EReal) : erfK a (max a (-a)) = erfR a (max a (-a)) := by
  obtain ⟨t, ht⟩ := tOf_real _ (absf_nonneg a)
  unfold erfK erfR
  rw [ht, show (0 - max a (-a)) * max a (-a) = -(a * a) by rw [zero_sub, EReal.neg_mul, absf_mul_absf]]
  congr 3
  simp only [← EReal.coe_mul, ← EReal.coe_add, ← EReal.coe_sub, EReal.coe_eq_coe_iff]
  ring

/-- The kernel's activation of `x`: half of `x` times one plus the approximation at `x` over the root of two. -/
def geluK (x : EReal) : EReal :=
  ((1 / 2 : ℝ) : EReal) * x * (1 + erfK (Ideal.div x ((Real.sqrt 2 : ℝ) : EReal))
    (max (Ideal.div x ((Real.sqrt 2 : ℝ) : EReal)) (-(Ideal.div x ((Real.sqrt 2 : ℝ) : EReal)))))

/-- The reference's activation of `x`: `x` times one plus the approximation, over two. -/
def geluR (x : EReal) : EReal :=
  Ideal.div (x * (1 + erfR (Ideal.div x ((Real.sqrt 2 : ℝ) : EReal))
    (max (Ideal.div x ((Real.sqrt 2 : ℝ) : EReal)) (-(Ideal.div x ((Real.sqrt 2 : ℝ) : EReal)))))) ((2 : ℝ) : EReal)

/-- The two activations are one function. -/
theorem geluK_eq_geluR (x : EReal) : geluK x = geluR x := by
  unfold geluK geluR
  rw [erfK_eq_erfR, Ideal.div_coe (by norm_num : (2 : ℝ) ≠ 0), mul_assoc, mul_comm]

/-- A weighted sum of three numbers in [0, 1], the weights not negative and summing to at most one, is in [0, 1]. -/
theorem weighted_range (w1 w2 w3 : EReal) (s1 s2 s3 : ℝ) (h1 : 0 ≤ w1) (h2 : 0 ≤ w2) (h3 : 0 ≤ w3) (hw : w1 + w2 + w3 ≤ 1)
    (p1 : 0 ≤ s1) (p2 : 0 ≤ s2) (p3 : 0 ≤ s3) (q1 : s1 ≤ 1) (q2 : s2 ≤ 1) (q3 : s3 ≤ 1) :
    0 ≤ w1 * (s1 : EReal) + w2 * (s2 : EReal) + w3 * (s3 : EReal)
      ∧ w1 * (s1 : EReal) + w2 * (s2 : EReal) + w3 * (s3 : EReal) ≤ 1 := by
  have P : ∀ (w : EReal) (s : ℝ), 0 ≤ w → 0 ≤ s → 0 ≤ w * (s : EReal) := fun w s hw hs => mul_nonneg hw (by exact_mod_cast hs)
  have Q : ∀ (w : EReal) (s : ℝ), 0 ≤ w → s ≤ 1 → w * (s : EReal) ≤ w := fun w s hw hs => by
    calc w * (s : EReal) ≤ w * 1 := mul_le_mul_of_nonneg_left (by exact_mod_cast hs) hw
      _ = w := mul_one w
  refine ⟨add_nonneg (add_nonneg (P _ _ h1 p1) (P _ _ h2 p2)) (P _ _ h3 p3), le_trans ?_ hw⟩
  exact add_le_add (add_le_add (Q _ _ h1 q1) (Q _ _ h2 q2)) (Q _ _ h3 q3)

/-- The quotient of a number not negative by one not negative and at least it is in [0, ⊤), the sum of the three
    quotients by their own sum at most one. -/
theorem softmax_weights (e1 e2 e3 : EReal) (h1 : 0 ≤ e1) (h2 : 0 ≤ e2) (h3 : 0 ≤ e3) (hpos : e1 + e2 + e3 ≠ 0) :
    0 ≤ Ideal.div e1 (e1 + e2 + e3) ∧ 0 ≤ Ideal.div e2 (e1 + e2 + e3) ∧ 0 ≤ Ideal.div e3 (e1 + e2 + e3)
      ∧ Ideal.div e1 (e1 + e2 + e3) + Ideal.div e2 (e1 + e2 + e3) + Ideal.div e3 (e1 + e2 + e3) ≤ 1 := by
  have hs : 0 ≤ e1 + e2 + e3 := add_nonneg (add_nonneg h1 h2) h3
  have hi : 0 ≤ (e1 + e2 + e3)⁻¹ := EReal.inv_nonneg_of_nonneg hs
  have D : ∀ e, Ideal.div e (e1 + e2 + e3) = e * (e1 + e2 + e3)⁻¹ := fun e => by simp [Ideal.div, hpos]
  rw [D, D, D]
  refine ⟨mul_nonneg h1 hi, mul_nonneg h2 hi, mul_nonneg h3 hi, ?_⟩
  rw [← EReal.right_distrib_of_nonneg h1 h2, ← EReal.right_distrib_of_nonneg (add_nonneg h1 h2) h3]
  generalize e1 + e2 + e3 = s at hs hpos
  induction s with
  | bot => simp at hs
  | top => simp
  | coe r =>
    have hr : r ≠ 0 := by exact_mod_cast hpos
    rw [← EReal.coe_inv, ← EReal.coe_mul, mul_inv_cancel₀ hr, EReal.coe_one]

end Cert.Proof

end
-- ==== Proof.Spec.lean ====
/-
  The scores as plain formulas over the extended reals: what both programs compute before the threshold.
-/
module

public import proofs.«01_k».proof.Proof.Gen.KernelIdeal
public import proofs.«01_k».proof.Proof.Scalars
public import Idealize.ShloMosaic.Lib.Pipeline.ValueKit

@[expose] public section

set_option maxRecDepth 16384

noncomputable section

namespace Cert.Proof

open Idealize.ShloMosaic
open Cert.KernelIdeal (S16x4096 S16x1536 S1536x256 S256 S256x64 S64 S64x3 S3 S16x256 S16x64 S16x3 S16x1 S16)

/-- A row less its mean. -/
def dev (x : Fin 4096 → EReal) (l : Fin 4096) : EReal :=
  x l - Ideal.div (∑ j, x j) (Ideal.ofBits .f32 1166016512#32)

/-- The standard deviation of a row, plus the small constant. -/
def spread (x : Fin 4096 → EReal) : EReal :=
  Ideal.sqrt (Ideal.div (∑ j, dev x j * dev x j) (Ideal.ofBits .f32 1166012416#32)) + Ideal.ofBits .f32 925353388#32

/-- The normalised element of a row through the logistic function. -/
def nz (x : Fin 4096 → EReal) (l : Fin 4096) : EReal := sigm (Ideal.div (dev x l) (spread x))

/-- The layer norm of a row of 256. -/
def lnr (h g b : Fin 256 → EReal) (j : Fin 256) : EReal :=
  Ideal.div (h j - Ideal.div (∑ k, h k) (Ideal.ofBits .f32 1132462080#32))
      (Ideal.sqrt (Ideal.div (∑ k, (h k - Ideal.div (∑ i, h i) (Ideal.ofBits .f32 1132462080#32))
            * (h k - Ideal.div (∑ i, h i) (Ideal.ofBits .f32 1132462080#32))) (Ideal.ofBits .f32 1132462080#32)
          + Ideal.ofBits .f32 925353388#32)) * g j + b j

/-- The softmax of three logits. -/
def expo (z : Fin 3 → EReal) (j : Fin 3) : EReal := Ideal.exp (z j - Finset.univ.fold (fun x y : EReal => max x y) ⊥ z)

def smax (z : Fin 3 → EReal) (j : Fin 3) : EReal := Ideal.div (expo z j) (∑ k, expo z k)

variable (x3 : Vec Ideal S16x1536 .f32) (x4 : Vec Ideal S1536x256 .f32) (x5 x6 x7 : Vec Ideal S256 .f32)
  (x8 : Vec Ideal S256x64 .f32) (x9 : Vec Ideal S64 .f32) (x10 : Vec Ideal S64x3 .f32) (x11 : Vec Ideal S3 .f32) (r : Fin 16)

/-- The first layer before its norm. -/
def lay1 (j : Fin 256) : EReal := ∑ x : Fin 1536, x3 (ix2 r x) * x4 (ix2 x j) + x5 (ix1 j)

/-- The first layer's norm. -/
def lay1n (j : Fin 256) : EReal := lnr (lay1 x3 x4 x5 r) (fun k => x6 (ix1 k)) (fun k => x7 (ix1 k)) j

/-- The second layer. -/
def lay2 (j : Fin 64) : EReal := ∑ x : Fin 256, geluR (lay1n x3 x4 x5 x6 x7 r x) * x8 (ix2 x j) + x9 (ix1 j)

/-- The logits. -/
def lay3 (j : Fin 3) : EReal := ∑ x : Fin 64, geluR (lay2 x3 x4 x5 x6 x7 x8 x9 r x) * x10 (ix2 x j) + x11 (ix1 j)

/-- The weights. -/
def wS (j : Fin 3) : EReal := smax (lay3 x3 x4 x5 x6 x7 x8 x9 x10 x11 r) j

/-- The score of a row's element: the three normalised elements weighted. -/
def scoreS (x0 x1 x2 : Vec Ideal S16x4096 .f32) (l : Fin 4096) : EReal :=
  wS x3 x4 x5 x6 x7 x8 x9 x10 x11 r 0 * nz (fun j => x0 (ix2 r j)) l + wS x3 x4 x5 x6 x7 x8 x9 x10 x11 r 1 * nz (fun j => x1 (ix2 r j)) l
    + wS x3 x4 x5 x6 x7 x8 x9 x10 x11 r 2 * nz (fun j => x2 (ix2 r j)) l

end Cert.Proof

end
-- ==== Proof.KernelScore.lean ====
/-
  The kernel's scores are the plain formulas.
-/
module

public import proofs.«01_k».proof.Proof.MaskRead
public import proofs.«01_k».proof.Proof.Spec
public import Idealize.ShloMosaic.Lib.Pipeline.ValueKit

@[expose] public section

set_option maxRecDepth 16384

noncomputable section

namespace Cert.Proof

open Idealize.ShloMosaic
open Cert.KernelIdeal (S16x4096 S16x1536 S1536x256 S256 S256x64 S64 S64x3 S3 S16x256 S16x64 S16x3 S16x1 S16)
open Cert.KernelIdeal.Gen

theorem kernel_nz (x : Vec Ideal S16x4096 .f32) (r : Fin 16) (l : Fin 4096) :
    k0_pay9 (F := Ideal) x (ix2 r l) = nz (fun j => x (ix2 r j)) l := by
  pointwise [k0_pay9]
  rw [zero_sub]
  rfl

theorem kernel_nz' (x : Vec Ideal S16x4096 .f32) (r : Fin 16) (l : Fin 4096) :
    k0_pay12 (F := Ideal) (k0_pay10 x) k0_pay11 (ix2 r l) = nz (fun j => x (ix2 r j)) l := by
  pointwise [k0_pay12, k0_pay10, k0_pay11]
  rw [zero_sub]
  rfl

theorem kernel_nz'' (x : Vec Ideal S16x4096 .f32) (r : Fin 16) (l : Fin 4096) :
    k0_pay13 (F := Ideal) x (ix2 r l) = nz (fun j => x (ix2 r j)) l := by
  pointwise [k0_pay13]
  rw [zero_sub]
  rfl

variable (x3 : Vec Ideal S16x1536 .f32) (x4 : Vec Ideal S1536x256 .f32) (x5 x6 x7 : Vec Ideal S256 .f32)
  (x8 : Vec Ideal S256x64 .f32) (x9 : Vec Ideal S64 .f32) (x10 : Vec Ideal S64x3 .f32) (x11 : Vec Ideal S3 .f32) (r : Fin 16)

theorem kernel_lay1 (l : Fin 256) : k0_pay14 (F := Ideal) x3 x4 x5 (ix2 r l) = lay1 x3 x4 x5 r l := by
  pointwise [k0_pay14]
  rfl

theorem kernel_lay1_sum (l : Fin 1) : k0_pay15 (F := Ideal) x3 x4 x5 (ix2 r l) = ∑ j, lay1 x3 x4 x5 r j := by
  pointwise [k0_pay15]
  exact Finset.sum_congr rfl fun j _ => kernel_lay1 x3 x4 x5 r j

theorem kernel_lay1n (l : Fin 256) :
    k0_pay17 (F := Ideal) (k0_pay14 x3 x4 x5) (k0_pay15 x3 x4 x5) k0_pay16 x6 x7 (ix2 r l) = lay1n x3 x4 x5 x6 x7 r l := by
  pointwise [k0_pay17, k0_pay16]
  simp only [kernel_lay1, kernel_lay1_sum]
  rfl

/-- The sign as the kernel computes it. -/
theorem sign_if (a : EReal) : (if 0 < FloatOps.absf (F := Ideal) (φ := .f32) a then
    (if a < 0 then Ideal.ofBits .f32 3212836864#32 else 1) else a) = Ideal.sign a := by
  refine Eq.trans ?_ (Ideal.jnp_sign_eq_sign_f32 a)
  pointwise

theorem named_sqrt2 : (Named.named Cert.KernelIdeal.κ "sqrt2" 1068827891#32 : Ideal .f32) = ((Real.sqrt 2 : ℝ) : EReal) :=
  IdealRules.named_const.ideal_named_scalar _ _ _ _ rfl

/-- The kernel's activation from its pieces. -/
theorem kernel_gelu (y a t : EReal) (ha : a = Ideal.div y ((Real.sqrt 2 : ℝ) : EReal))
    (ht : t = Ideal.div 1 (1 + Ideal.ofBits .f32 1051179525#32 * FloatOps.absf (F := Ideal) (φ := .f32) a)) :
    Ideal.ofBits .f32 1056964608#32 * y * (1 + Ideal.sign a * (1 -
      ((((Ideal.ofBits .f32 1065868322#32 * t + Ideal.ofBits .f32 3216638179#32) * t + Ideal.ofBits .f32 1068888291#32) * t
        + Ideal.ofBits .f32 3197217166#32) * t + Ideal.ofBits .f32 1048738054#32) * t
        * Ideal.exp ((0 - FloatOps.absf (F := Ideal) (φ := .f32) a) * FloatOps.absf (F := Ideal) (φ := .f32) a))) = geluR y := by
  rw [← geluK_eq_geluR, ht, ha, ofBits_half, ofBits_cp, ofBits_c1, ofBits_neg_c2, ofBits_c3, ofBits_neg_c4, ofBits_c5]
  rfl

theorem kernel_lay2 (l : Fin 64) :
    k0_pay24 (F := Ideal) (k0_pay18 (k0_pay14 x3 x4 x5) (k0_pay15 x3 x4 x5) k0_pay16 x6 x7)
      (k0_pay20 (k0_pay14 x3 x4 x5) (k0_pay15 x3 x4 x5) k0_pay16 x6 x7) (k0_pay21 (k0_pay14 x3 x4 x5) (k0_pay15 x3 x4 x5) k0_pay16 x6 x7)
      (k0_pay22 (k0_pay14 x3 x4 x5) (k0_pay15 x3 x4 x5) k0_pay16 x6 x7) (k0_pay23 (k0_pay14 x3 x4 x5) (k0_pay15 x3 x4 x5) k0_pay16 x6 x7)
      (Ideal.ofBits .f32 3216638179#32) x8 x9 (ix2 r l)
      = lay2 x3 x4 x5 x6 x7 x8 x9 r l := by
  pointwise [k0_pay24, k0_pay18, k0_pay20, k0_pay21, k0_pay22, k0_pay23, k0_pay19]
  simp only [kernel_lay1n, sign_if, named_sqrt2]
  unfold lay2
  congr 1
  refine Finset.sum_congr rfl fun j _ => congrArg (· * _) (kernel_gelu _ _ _ rfl rfl)

theorem kernel_weights (l : Fin 3) : kW (F := Ideal) x3 x4 x5 x6 x7 x8 x9 x10 x11 (ix2 r l) = wS x3 x4 x5 x6 x7 x8 x9 x10 x11 r l := by
  have h2 := kernel_lay2 x3 x4 x5 x6 x7 x8 x9
  have hl : ∀ j : Fin 3, ∑ x : Fin 64, geluR (lay2 x3 x4 x5 x6 x7 x8 x9 r x) * x10 (ix2 x j) + x11 (ix1 j)
    = lay3 x3 x4 x5 x6 x7 x8 x9 x10 x11 r j := fun _ => rfl
  unfold kW
  pointwise [k0_pay30, k0_pay25, k0_pay26, k0_pay27, k0_pay28, k0_pay29]
  have hg := fun y => kernel_gelu y _ _ rfl rfl
  simp only [h2, sign_if, named_sqrt2, hg, hl, ofBits_neg_inf]
  rfl

theorem kernel_score (x0 x1 x2 : Vec Ideal S16x4096 .f32) (l : Fin 4096) :
    k0_pay1 (F := Ideal) (k0_pay9 x0) (k0_pay12 (k0_pay10 x1) k0_pay11) (k0_pay13 x2) (kW x3 x4 x5 x6 x7 x8 x9 x10 x11)
      (kW0 x3 x4 x5 x6 x7 x8 x9 x10 x11) (ix2 r l) = scoreS x3 x4 x5 x6 x7 x8 x9 x10 x11 r x0 x1 x2 l := by
  pointwise [k0_pay1, kW0]
  simp only [kernel_nz, kernel_nz', kernel_nz'', kernel_weights]
  rfl

end Cert.Proof

end
-- ==== Proof.Patterns.lean ====
/-
  The numbers the non-negative float words name: strictly increasing in the word.
-/
module

public import proofs.«01_k».proof.Proof.Consts

@[expose] public section

set_option maxRecDepth 16384

noncomputable section

namespace Cert.Proof

open Idealize.ShloMosaic

/-- The number the word `p` names, for the non-negative finite words. -/
def fv (p : ℕ) : ℝ :=
  if p / 2 ^ 23 = 0 then ((p % 2 ^ 23 : ℕ) : ℝ) * 2 ^ (-149 : ℤ)
  else ((2 ^ 23 + p % 2 ^ 23 : ℕ) : ℝ) * 2 ^ ((p / 2 ^ 23 : ℕ) - 150 : ℤ)

/-- The reading of a word below the word of infinity. -/
theorem ofBits_word (p : ℕ) (hp : p < 2139095040) : (Ideal.ofBits .f32 (BitVec.ofNat 32 p) : EReal) = ((fv p : ℝ) : EReal) := by
  have hn : BitVec.extractLsb' 31 1 (BitVec.ofNat 32 p) ≠ 1#1 := by
    intro h
    have := congrArg BitVec.toNat h
    simp only [BitVec.extractLsb'_toNat, BitVec.toNat_ofNat, Nat.shiftRight_eq_div_pow] at this
    omega
  have hx : (BitVec.extractLsb' 23 8 (BitVec.ofNat 32 p)).toNat = p / 2 ^ 23 := by
    simp only [BitVec.extractLsb'_toNat, BitVec.toNat_ofNat, Nat.shiftRight_eq_div_pow]
    omega
  have hf : (BitVec.extractLsb' 0 23 (BitVec.ofNat 32 p)).toNat = p % 2 ^ 23 := by
    simp only [BitVec.extractLsb'_toNat, BitVec.toNat_ofNat, Nat.shiftRight_eq_div_pow]
    omega
  have h1 : p / 2 ^ 23 ≠ 2 ^ 8 - 1 := by omega
  show Ideal.ieee 8 23 (BitVec.ofNat 32 p) = _
  unfold Ideal.ieee fv
  simp only [hx, hf, show (8 + 23 : ℕ) = 31 from rfl, beq_iff_eq, if_neg hn, if_neg h1]
  generalize p / 2 ^ 23 = d
  generalize p % 2 ^ 23 = f
  split
  · norm_num
  · norm_num
    congr 2
    rw [show (d : ℤ) - 127 - 23 = (d : ℤ) - 150 by ring]

/-- The words' numbers increase from word to word. -/
theorem fv_lt_succ (p : ℕ) : fv p < fv (p + 1) := by
  unfold fv
  by_cases hm : (p + 1) % 2 ^ 23 = 0
  · have hd : (p + 1) / 2 ^ 23 = p / 2 ^ 23 + 1 := by omega
    have hr : p % 2 ^ 23 = 2 ^ 23 - 1 := by omega
    rw [hd, hm, hr]
    generalize p / 2 ^ 23 = d
    rw [if_neg (Nat.succ_ne_zero d)]
    split
    · rename_i h
      rw [h]
      norm_num
    · have e : ((d + 1 : ℕ) - 150 : ℤ) = (d - 150 : ℤ) + 1 := by push_cast; ring
      rw [e, zpow_add₀ two_ne_zero]
      have : (0 : ℝ) < 2 ^ (d - 150 : ℤ) := by positivity
      norm_num
      linarith
  · have hd : (p + 1) / 2 ^ 23 = p / 2 ^ 23 := by omega
    have hr : (p + 1) % 2 ^ 23 = p % 2 ^ 23 + 1 := by omega
    rw [hd, hr]
    split
    · have : (0 : ℝ) < 2 ^ (-149 : ℤ) := by positivity
      push_cast
      nlinarith
    · have : (0 : ℝ) < 2 ^ ((p / 2 ^ 23 : ℕ) - 150 : ℤ) := by positivity
      push_cast
      push_cast at this
      nlinarith

/-- The words' numbers are strictly increasing. -/
theorem fv_strictMono : StrictMono fv := strictMono_nat_of_lt_succ fv_lt_succ

/-- The word of one names one. -/
theorem fv_one : fv 1065353216 = 1 := by
  unfold fv
  rw [if_neg (by norm_num)]
  norm_num

/-- No word names a negative number. -/
theorem fv_nonneg (p : ℕ) : 0 ≤ fv p := by
  unfold fv
  split <;> positivity

end Cert.Proof

end
-- ==== Proof.Bisect.lean ====
/-
  Thirty-one halvings of a range of words, stated for any test of words: they end on the first word that passes.
-/
module

public import proofs.«01_k».proof.Proof.Patterns
public import Idealize.ShloMosaic.Lib.IndicatorCount

@[expose] public section

set_option maxRecDepth 16384

noncomputable section

namespace Cert.Proof

open Idealize.ShloMosaic

/-- The word one below the word of `a` (all ones when `a` is zero). -/
def low (a : ℕ) : BitVec 32 := BitVec.ofNat 32 a - 1#32

theorem low_succ (a : ℕ) : low (a + 1) = BitVec.ofNat 32 a := by
  have h : BitVec.ofNat 32 (a + 1) = BitVec.ofNat 32 a + 1#32 := BitVec.ofNat_add a 1
  rw [low, h, BitVec.add_sub_cancel]

/-- The half sum rounded down, as the kernel computes it. -/
def midw (lo hi : BitVec 32) : BitVec 32 :=
  Scalar.select
    (IntOp.andi
      (IntOp.cmpi .ne
        (IntOp.subi (BitVec.setWidth 32 (IntOp.cmpi .sgt (IntOp.addi lo hi) 0#32))
          (BitVec.setWidth 32 (IntOp.cmpi .slt (IntOp.addi lo hi) 0#32)))
        (Scalar.subi (Scalar.extui (Scalar.cmpi .sgt 2#32 0#32)) (Scalar.extui (Scalar.cmpi .slt 2#32 0#32))))
      (IntOp.cmpi .ne (IntOp.remsi .vector (IntOp.addi lo hi) 2#32) 0#32))
    (IntOp.subi (IntOp.divsi .vector (IntOp.addi lo hi) 2#32) 1#32)
    (IntOp.divsi .vector (IntOp.addi lo hi) 2#32)

/-- The half sum of a sum that is a non-negative word. -/
theorem midw_of (lo hi : BitVec 32) (n : ℕ) (hn : n < 2 ^ 31) (h : lo + hi = BitVec.ofNat 32 n) :
    midw lo hi = BitVec.ofNat 32 (n / 2) := by
  have hm : (BitVec.ofNat 32 n).msb = false := by
    rw [BitVec.msb_eq_decide]; simp only [BitVec.toNat_ofNat, decide_eq_false_iff_not]; omega
  have hc : ¬ IntOp.SDivCorner (BitVec.ofNat 32 n) 2#32 := by
    rintro (h | ⟨_, h⟩) <;> exact absurd h (by decide)
  have hd : IntOp.divsi .vector (BitVec.ofNat 32 n) 2#32 = BitVec.ofNat 32 (n / 2) := by
    unfold IntOp.divsi
    rw [if_neg hc, BitVec.sdiv_eq, hm]
    apply BitVec.eq_of_toNat_eq
    show ((BitVec.ofNat 32 n).udiv 2#32).toNat = _
    rw [BitVec.udiv_eq, BitVec.toNat_udiv, BitVec.toNat_ofNat, BitVec.toNat_ofNat, BitVec.toNat_ofNat,
      Nat.mod_eq_of_lt (by omega : n < 2 ^ 32), Nat.mod_eq_of_lt (by omega : 2 < 2 ^ 32),
      Nat.mod_eq_of_lt (by omega : n / 2 < 2 ^ 32)]
  unfold midw
  simp only [IntOp.addi, h, hd]
  by_cases h0 : n = 0
  · subst h0; decide
  · have e1 : IntOp.cmpi .sgt (BitVec.ofNat 32 n) 0#32 = 1#1 := by
      show BitVec.ofBool ((0#32).slt (BitVec.ofNat 32 n)) = 1#1
      rw [BitVec.slt_eq_decide, BitVec.toInt_eq_toNat_of_msb hm]
      simp only [BitVec.toNat_ofNat, BitVec.toInt_zero]
      rw [decide_eq_true (by omega)]; rfl
    have e2 : IntOp.cmpi .slt (BitVec.ofNat 32 n) 0#32 = 0#1 := by
      show BitVec.ofBool ((BitVec.ofNat 32 n).slt 0#32) = 0#1
      rw [BitVec.slt_eq_decide, BitVec.toInt_eq_toNat_of_msb hm]
      simp only [BitVec.toNat_ofNat, BitVec.toInt_zero]
      rw [decide_eq_false (by omega)]; rfl
    rw [e1, e2]
    have e3 : IntOp.cmpi .ne (IntOp.subi (BitVec.setWidth 32 1#1) (BitVec.setWidth 32 0#1))
        (Scalar.subi (Scalar.extui (Scalar.cmpi .sgt 2#32 0#32)) (Scalar.extui (Scalar.cmpi .slt 2#32 0#32))) = 0#1 := by
      decide
    rw [e3]
    show Scalar.select (0#1 &&& _) _ _ = _
    rw [BitVec.zero_and]
    rfl

theorem midw_zero : midw (low 0) (BitVec.ofNat 32 0) = low ((0 + 0 + 1) / 2) := by
  show midw (low 0) 0#32 = low 0
  rw [show low 0 = 4294967295#32 by decide]
  decide

/-- The half sum of a lower and an upper bound. -/
theorem midw_low (a b : ℕ) (hb : b ≤ 1065353216) (hab : a ≤ b) : midw (low a) (BitVec.ofNat 32 b) = low ((a + b + 1) / 2) := by
  rcases Nat.eq_zero_or_pos (a + b) with h | h
  · obtain ⟨rfl, rfl⟩ : a = 0 ∧ b = 0 := by omega
    exact midw_zero
  · obtain ⟨n, hn⟩ : ∃ n, a + b = n + 1 := ⟨a + b - 1, by omega⟩
    have hs : low a + BitVec.ofNat 32 b = BitVec.ofNat 32 n := by
      rw [← low_succ n, ← hn, low, low, BitVec.ofNat_add, BitVec.sub_eq_add_neg, BitVec.sub_eq_add_neg, BitVec.add_assoc,
        BitVec.add_comm (-1#32), ← BitVec.add_assoc]
    rw [midw_of _ _ n (by omega) hs, ← low_succ, hn, show (n + 1 + 1) / 2 = n / 2 + 1 by omega]

/-- The bounds enclose the first word that passes, at most `w` words apart. -/
def Inv (p : BitVec 32 → Prop) (w : ℕ) (lo hi : BitVec 32) : Prop :=
  ∃ a b : ℕ, lo = low a ∧ hi = BitVec.ofNat 32 b ∧ a ≤ b ∧ b ≤ 1065353216 ∧ b + 1 ≤ a + w ∧ p hi ∧ ¬ p lo

/-- One halving. -/
theorem Inv.step {p : BitVec 32 → Prop} [DecidablePred p] {k : ℕ} {lo hi : BitVec 32} (h : Inv p (2 ^ k) lo hi) :
    Inv p (2 ^ (k - 1)) (if p (midw lo hi) then lo else midw lo hi) (if p (midw lo hi) then midw lo hi else hi) := by
  obtain ⟨a, b, rfl, rfl, hab, hb, hw, hp, hn⟩ := h
  rw [midw_low a b hb hab]
  have hk : b + 1 ≤ a + 2 * 2 ^ (k - 1) ∧ (2 ^ k = 1 ∨ 2 ^ k = 2 * 2 ^ (k - 1)) ∧ 1 ≤ 2 ^ (k - 1) := by
    cases k with
    | zero => simp at hw ⊢; omega
    | succ n => rw [Nat.succ_sub_one]; rw [pow_succ] at hw ⊢; have := Nat.one_le_two_pow (n := n); omega
  obtain ⟨hk1, hk2, hk3⟩ := hk
  generalize 2 ^ k = w at *
  generalize 2 ^ (k - 1) = w' at *
  by_cases hpm : p (low ((a + b + 1) / 2))
  · rw [if_pos hpm, if_pos hpm]
    have hne : a ≠ b := by
      rintro rfl
      rw [show (a + a + 1) / 2 = a by omega] at hpm
      exact hn hpm
    obtain ⟨c, hc⟩ : ∃ c, (a + b + 1) / 2 = c + 1 := ⟨(a + b + 1) / 2 - 1, by omega⟩
    rw [hc] at hpm ⊢
    exact ⟨a, c, rfl, low_succ c, by omega, by omega, by omega, hpm, hn⟩
  · rw [if_neg hpm, if_neg hpm]
    exact ⟨_, b, rfl, rfl, by omega, hb, by omega, hp, hpm⟩

/-- Where the halvings end: the upper bound passes and the word before it does not. -/
theorem Inv.last {p : BitVec 32 → Prop} {lo hi : BitVec 32} (h : Inv p 1 lo hi) :
    ∃ b : ℕ, hi = BitVec.ofNat 32 b ∧ b ≤ 1065353216 ∧ p (BitVec.ofNat 32 b) ∧ ∀ c, c + 1 = b → ¬ p (BitVec.ofNat 32 c) := by
  obtain ⟨a, b, rfl, rfl, hab, hb, hw, hp, hn⟩ := h
  obtain rfl : a = b := by omega
  refine ⟨a, rfl, hb, hp, fun c hc => ?_⟩
  rw [← hc, low_succ] at hn
  exact hn

end Cert.Proof

end
-- ==== Proof.Threshold.lean ====
/-
  The threshold of one row: the first float word whose number bounds 1639 of the row's scores is the least float
  number at or above the score of rank 1638.
-/
module

public import proofs.«01_k».proof.Proof.Patterns

@[expose] public section

set_option maxRecDepth 16384

noncomputable section

namespace Cert.Proof

open Idealize.ShloMosaic

/-- How many of the row's scores are at most `v`. -/
def cnt (s : Fin 4096 → EReal) (v : EReal) : ℕ := (Finset.univ.filter fun k => s k ≤ v).card

theorem cnt_mono (s : Fin 4096 → EReal) {v w : EReal} (h : v ≤ w) : cnt s v ≤ cnt s w :=
  Finset.card_le_card fun k hk => by
    rw [Finset.mem_filter] at hk ⊢
    exact ⟨hk.1, hk.2.trans h⟩

theorem cnt_le (s : Fin 4096 → EReal) (v : EReal) : cnt s v ≤ 4096 :=
  (Finset.card_le_univ _).trans (by rw [Fintype.card_fin])

/-- A number bounding every score counts them all. -/
theorem cnt_all (s : Fin 4096 → EReal) (v : EReal) (h : ∀ k, s k ≤ v) : cnt s v = 4096 := by
  unfold cnt
  rw [Finset.filter_true_of_mem fun k _ => h k, Finset.card_univ, Fintype.card_fin]

/-- A number below every score counts none. -/
theorem cnt_none (s : Fin 4096 → EReal) (v : EReal) (h : ∀ k, v < s k) : cnt s v = 0 := by
  unfold cnt
  rw [Finset.filter_false_of_mem fun k _ => not_le.mpr (h k), Finset.card_empty]

/-- The score of rank 1638 is at most `v` exactly when 1639 scores are. -/
theorem rank_le_iff (s : Fin 4096 → EReal) (σ : Fin 4096 → Fin 4096) (hi : Function.Injective σ) (hsur : Function.Surjective σ)
    (hm : ∀ i j, i < j → s (σ i) ≤ s (σ j)) (v : EReal) : s (σ 1638) ≤ v ↔ 1639 ≤ cnt s v := by
  have hm' : ∀ i j, i ≤ j → s (σ i) ≤ s (σ j) := fun i j h => (eq_or_lt_of_le h).elim (fun e => e ▸ le_rfl) (hm i j)
  constructor
  · intro h
    have hc : ((Finset.Iic (1638 : Fin 4096)).image σ).card = 1639 := by
      rw [Finset.card_image_of_injective _ hi, Fin.card_Iic]
      rfl
    rw [← hc]
    refine Finset.card_le_card fun k hk => ?_
    obtain ⟨i, hi1, rfl⟩ := Finset.mem_image.mp hk
    exact Finset.mem_filter.mpr ⟨Finset.mem_univ _, (hm' i _ (Finset.mem_Iic.mp hi1)).trans h⟩
  · intro h
    by_contra hv
    have hc : ((Finset.Iio (1638 : Fin 4096)).image σ).card = 1638 := by
      rw [Finset.card_image_of_injective _ hi, Fin.card_Iio]
      rfl
    have : cnt s v ≤ 1638 := by
      rw [← hc]
      refine Finset.card_le_card fun k hk => ?_
      obtain ⟨i, rfl⟩ := hsur k
      refine Finset.mem_image_of_mem _ (Finset.mem_Iio.mpr ?_)
      by_contra hlt
      exact hv ((hm' _ i (not_lt.mp hlt)).trans (Finset.mem_filter.mp hk).2)
    omega

/-- The least float number at or above `q` is the number of the first word at or above `q`. -/
theorem least_word {n : ℕ} (hn : n ≤ 2139095040) (q : EReal) (b : ℕ) (hb : b < n) (hq : q ≤ ((fv b : ℝ) : EReal))
    (hlt : ∀ c, c + 1 = b → ¬ q ≤ ((fv c : ℝ) : EReal)) (g : Fin n → EReal)
    (hg : ∀ p : Fin n, g p = if q ≤ ((fv p.val : ℝ) : EReal) then ((fv p.val : ℝ) : EReal) else ⊤) :
    (Finset.univ : Finset (Fin n)).fold (fun x y : EReal => min x y) ⊤ g = ((fv b : ℝ) : EReal) := by
  have hmono : ∀ c d : ℕ, c ≤ d → ((fv c : ℝ) : EReal) ≤ ((fv d : ℝ) : EReal) := fun c d h =>
    EReal.coe_le_coe_iff.mpr (fv_strictMono.monotone h)
  refine le_antisymm ?_ ?_
  · refine (Finset.fold_min_le _).mpr (Or.inr ⟨⟨b, hb⟩, Finset.mem_univ _, ?_⟩)
    rw [hg, if_pos hq]
  · refine (Finset.le_fold_min _).mpr ⟨le_top, fun p _ => ?_⟩
    rw [hg]
    split
    · rename_i h
      refine hmono _ _ (not_lt.mp fun hpb => hlt (b - 1) (by omega) (h.trans (hmono _ _ (by omega))))
    · exact le_top

end Cert.Proof

end
-- ==== Proof.KernelMask.lean ====
/-
  The kernel's threshold of a row and its mask.
-/
module

public import proofs.«01_k».proof.Proof.KernelScore
public import proofs.«01_k».proof.Proof.Bisect
public import proofs.«01_k».proof.Proof.Threshold

@[expose] public section

set_option maxRecDepth 16384

noncomputable section

namespace Cert.Proof

open Idealize.ShloMosaic
open Cert.KernelIdeal (k0_t1_loop S16x4096 S16x1536 S1536x256 S256 S256x64 S64 S64x3 S3 S16x256 S16x64 S16x3 S16x1 S16)
open Cert.KernelIdeal.Gen

/-- The mask of a score at a threshold. -/
def logi (s θ : EReal) : EReal := sigm (Ideal.div (s - θ) (Ideal.ofBits .f32 1050253722#32))

/-- A word passes when its number bounds 1639 of the row's scores. -/
def passes (s : Fin 4096 → EReal) (x : BitVec 32) : Prop := 1639 ≤ cnt s (Ideal.ofBits .f32 x)

instance (s : Fin 4096 → EReal) : DecidablePred (passes s) := fun x => Nat.decLe _ _

theorem count_sge (n : ℕ) (hn : n ≤ 4096) : IntOp.cmpi .sge (BitVec.ofNat 32 n) 1639#32 = BitVec.ofBool (decide (1639 ≤ n)) := by
  show BitVec.ofBool ((1639#32).sle (BitVec.ofNat 32 n)) = _
  have hm : (BitVec.ofNat 32 n).msb = false := by
    rw [BitVec.msb_eq_decide]; simp only [BitVec.toNat_ofNat, decide_eq_false_iff_not]; omega
  have h : (1639#32).toInt ≤ (BitVec.ofNat 32 n).toInt ↔ 1639 ≤ n := by
    rw [BitVec.toInt_eq_toNat_of_msb hm, BitVec.toNat_ofNat, show (1639#32).toInt = 1639 from rfl]
    omega
  rw [BitVec.sle_eq_decide]
  by_cases h1 : 1639 ≤ n
  · rw [decide_eq_true h1, decide_eq_true (h.mpr h1)]
  · rw [decide_eq_false h1, decide_eq_false (h1 ∘ h.mp)]

variable (v23 v47 v71 : FVec Ideal S16x4096 .f32) (v219 : FVec Ideal S16x3 .f32) (v220 : FVec Ideal S16x1 .f32) (r : Fin 16)
  (s : Fin 4096 → EReal) (hs : ∀ l, k0_pay1 v23 v47 v71 v219 v220 (ix2 r l) = s l)

theorem mid_read (lo hi : IVec S16x1 32) : k0_pay4 lo hi (ix2 r 0) = midw (lo (ix2 r 0)) (hi (ix2 r 0)) := by
  pointwise [k0_pay4]
  rfl

include hs in
/-- The test of one halving. -/
theorem test_read (lo hi : IVec S16x1 32) :
    k0_pay5 v23 v47 v71 v219 v220 lo hi (ix2 r 0) = BitVec.ofBool (decide (passes s (midw (lo (ix2 r 0)) (hi (ix2 r 0))))) := by
  pointwise [k0_pay5]
  simp only [hs, mid_read]
  have hf : Finset.fold IntOp.addi (0#32)
      (fun x => BitVec.setWidth 32 (FloatOps.cmpf (F := Ideal) (φ := .f32) .ole (s x) (Ideal.ofBits .f32 (midw (lo (ix2 r 0)) (hi (ix2 r 0))))))
      Finset.univ = BitVec.ofNat 32 (cnt s (Ideal.ofBits .f32 (midw (lo (ix2 r 0)) (hi (ix2 r 0))))) := by
    rw [IndicatorCount.fold_addi_setWidth_eq_card]
    congr 2
    refine Finset.filter_congr fun k _ => ?_
    show BitVec.ofBool (decide (s k ≤ _)) = 1#1 ↔ _
    by_cases h : s k ≤ Ideal.ofBits .f32 (midw (lo (ix2 r 0)) (hi (ix2 r 0))) <;> simp [h]
  refine (congrArg (fun z => IntOp.cmpi .sge z 1639#32) hf).trans ?_
  exact count_sge _ (cnt_le s _)

include hs in
theorem lo_read (lo hi : IVec S16x1 32) : k0_pay6 v23 v47 v71 v219 v220 lo hi (ix2 r 0)
    = if passes s (midw (lo (ix2 r 0)) (hi (ix2 r 0))) then lo (ix2 r 0) else midw (lo (ix2 r 0)) (hi (ix2 r 0)) := by
  show Scalar.select (k0_pay5 v23 v47 v71 v219 v220 lo hi (ix2 r 0)) (lo (ix2 r 0)) (k0_pay4 lo hi (ix2 r 0)) = _
  rw [test_read v23 v47 v71 v219 v220 r s hs, mid_read]
  by_cases h : passes s (midw (lo (ix2 r 0)) (hi (ix2 r 0)))
  · rw [decide_eq_true h, if_pos h]; rfl
  · rw [decide_eq_false h, if_neg h]; rfl

include hs in
theorem hi_read (lo hi : IVec S16x1 32) : k0_pay7 v23 v47 v71 v219 v220 lo hi (ix2 r 0)
    = if passes s (midw (lo (ix2 r 0)) (hi (ix2 r 0))) then midw (lo (ix2 r 0)) (hi (ix2 r 0)) else hi (ix2 r 0) := by
  show Scalar.select (k0_pay5 v23 v47 v71 v219 v220 lo hi (ix2 r 0)) (k0_pay4 lo hi (ix2 r 0)) (hi (ix2 r 0)) = _
  rw [test_read v23 v47 v71 v219 v220 r s hs, mid_read]
  by_cases h : passes s (midw (lo (ix2 r 0)) (hi (ix2 r 0)))
  · rw [decide_eq_true h, if_pos h]; rfl
  · rw [decide_eq_false h, if_neg h]; rfl

theorem trips_eq : k0_t1_loop.trips = 31 := by
  decide

include hs in
/-- The bounds after any number of halvings. -/
theorem fold_inv {α : Type} (ts : List α) (k : ℕ) (st : IVec S16x1 32 × IVec S16x1 32)
    (h : Inv (passes s) (2 ^ k) (st.1 (ix2 r 0)) (st.2 (ix2 r 0))) :
    Inv (passes s) (2 ^ (k - ts.length))
      ((ts.foldl (fun st _ => (k0_pay6 v23 v47 v71 v219 v220 st.1 st.2, k0_pay7 v23 v47 v71 v219 v220 st.1 st.2)) st).1 (ix2 r 0))
      ((ts.foldl (fun st _ => (k0_pay6 v23 v47 v71 v219 v220 st.1 st.2, k0_pay7 v23 v47 v71 v219 v220 st.1 st.2)) st).2 (ix2 r 0)) := by
  induction ts generalizing k st with
  | nil => exact h
  | cons t ts ih =>
    rw [List.foldl_cons, List.length_cons, Nat.add_comm, ← Nat.sub_sub]
    refine ih (k - 1) _ ?_
    dsimp only
    rw [lo_read v23 v47 v71 v219 v220 r s hs, hi_read v23 v47 v71 v219 v220 r s hs]
    exact h.step

include hs in
/-- The threshold's word: the first word whose number bounds 1639 of the row's scores. -/
theorem kernel_threshold (hu : ∀ l, ∃ t : ℝ, 0 ≤ t ∧ t ≤ 1 ∧ s l = (t : EReal)) :
    ∃ b : ℕ, (kBounds v23 v47 v71 v219 v220).2 (ix2 r 0) = BitVec.ofNat 32 b ∧ b ≤ 1065353216
      ∧ passes s (BitVec.ofNat 32 b) ∧ ∀ c, c + 1 = b → ¬ passes s (BitVec.ofNat 32 c) := by
  have h0 : Inv (passes s) (2 ^ 30) (k0_pay2 (ix2 r 0)) (k0_pay3 (ix2 r 0)) := by
    refine ⟨0, 1065353216, ?_, rfl, by norm_num, le_rfl, by norm_num, ?_, ?_⟩
    · show 4294967295#32 = low 0
      decide
    · show 1639 ≤ cnt s (Ideal.ofBits .f32 1065353216#32)
      rw [cnt_all]
      · norm_num
      · intro k
        obtain ⟨t, -, h1, ht⟩ := hu k
        rw [ht, show Ideal.ofBits .f32 1065353216#32 = 1 from ofBits_one]
        exact_mod_cast h1
    · show ¬ 1639 ≤ cnt s (Ideal.ofBits .f32 4294967295#32)
      rw [cnt_none]
      · norm_num
      · intro k
        obtain ⟨t, -, -, ht⟩ := hu k
        rw [ht, show Ideal.ofBits .f32 4294967295#32 = ⊥ from ofBits_minus_one_word]
        exact EReal.bot_lt_coe t
  have h := fold_inv v23 v47 v71 v219 v220 r s hs (List.finRange k0_t1_loop.trips) 30 (k0_pay2, k0_pay3) h0
  rw [List.length_finRange, trips_eq] at h
  unfold kBounds
  rw [Scf.fold_eq]
  exact Inv.last h

/-- The kernel's mask. -/
theorem kernel_mask (x0 x1 x2 : Vec Ideal S16x4096 .f32) (x3 : Vec Ideal S16x1536 .f32) (x4 : Vec Ideal S1536x256 .f32)
    (x5 x6 x7 : Vec Ideal S256 .f32) (x8 : Vec Ideal S256x64 .f32) (x9 : Vec Ideal S64 .f32) (x10 : Vec Ideal S64x3 .f32)
    (x11 : Vec Ideal S3 .f32) (r : Fin 16) (l : Fin 4096) :
    kMask (F := Ideal) x0 x1 x2 x3 x4 x5 x6 x7 x8 x9 x10 x11 (ix2 r l)
      = logi (scoreS x3 x4 x5 x6 x7 x8 x9 x10 x11 r x0 x1 x2 l)
        (Ideal.ofBits .f32 ((kBounds (F := Ideal) (k0_pay9 x0) (k0_pay12 (k0_pay10 x1) k0_pay11) (k0_pay13 x2)
          (kW x3 x4 x5 x6 x7 x8 x9 x10 x11) (kW0 x3 x4 x5 x6 x7 x8 x9 x10 x11)).2 (ix2 r 0))) := by
  unfold kMask
  pointwise [k0_pay8]
  rw [kernel_score, zero_sub]
  rfl

end Cert.Proof

end
-- ==== Proof.ReferenceScore.lean ====
/-
  The reference's scores are the plain formulas.
-/
module

public import proofs.«01_k».proof.Proof.Gen.ReferenceIdeal.Run
public import proofs.«01_k».proof.Proof.Spec
public import Idealize.ShloMosaic.Lib.Pipeline.ValueKit
public import Idealize.ShloMosaic.Lib.Tactic.CleanTypes

@[expose] public section

set_option maxRecDepth 16384

noncomputable section

namespace Cert.Proof

open Idealize.ShloMosaic
open Cert.ReferenceIdeal.Value
open Cert.ReferenceIdeal (main_arg1 main_arg2 main_arg3 main_arg4 main_arg5 main_arg6 main_arg7 main_arg8 main_arg9 main_arg10 main_arg11 main_arg12)

theorem dof_4095 : (Ideal.ofBits .f32 1166016512#32 - FloatOps.sitofp (F := Ideal) .f32 1#32 : EReal) = Ideal.ofBits .f32 1166012416#32 := by
  rw [ofBits_4096, ofBits_4095, show (FloatOps.sitofp (F := Ideal) .f32 1#32 : EReal) = (((1#32).toInt : ℝ) : EReal) from rfl, ← EReal.coe_sub]
  norm_num

theorem dof_256 : (Ideal.ofBits .f32 1132462080#32 - FloatOps.sitofp (F := Ideal) .f32 0#32 : EReal) = Ideal.ofBits .f32 1132462080#32 := by
  rw [ofBits_256, show (FloatOps.sitofp (F := Ideal) .f32 0#32 : EReal) = (((0#32).toInt : ℝ) : EReal) from rfl, ← EReal.coe_sub]
  norm_num

theorem pos_4095 : (0 : EReal) < Ideal.ofBits .f32 1166012416#32 := by
  rw [ofBits_4095]; exact_mod_cast (by norm_num : (0 : ℝ) < 4095)

theorem pos_256 : (0 : EReal) < Ideal.ofBits .f32 1132462080#32 := by
  rw [ofBits_256]; exact_mod_cast (by norm_num : (0 : ℝ) < 256)

variable (V0 : Valuation Cert.ReferenceIdeal.τ Cert.ReferenceIdeal.sig (Elt Ideal)) (r : Fin 16)

theorem reference_lay1 (l : Fin 256) : res_main_v54 V0 (ix2 r l) = lay1 (V0 (Proc.devRef .tc main_arg4)) (V0 (Proc.devRef .tc main_arg5)) (V0 (Proc.devRef .tc main_arg6)) r l := by
  pointwise [res_main_v54]
  rfl

theorem reference_lay1n (l : Fin 256) :
    res_main_v72 V0 (ix2 r l) = lay1n (V0 (Proc.devRef .tc main_arg4)) (V0 (Proc.devRef .tc main_arg5)) (V0 (Proc.devRef .tc main_arg6)) (V0 (Proc.devRef .tc main_arg7)) (V0 (Proc.devRef .tc main_arg8)) r l := by
  pointwise [res_main_v72, res_main_call3_v5, res_main_call3_v8]
  simp only [reference_lay1, dof_256, if_pos pos_256]
  rfl

/-- The reference's activation from its pieces. -/
theorem reference_gelu (y a t : EReal) (ha : a = Ideal.div y ((Real.sqrt 2 : ℝ) : EReal))
    (ht : t = Ideal.div 1 (1 + (cp : EReal) * max a (-a))) :
    Ideal.div (y * (1 + Ideal.sign a * (1 - ((c1 : EReal) * t - (c2 : EReal) * (t * t) + (c3 : EReal) * (t * t * t)
      - (c4 : EReal) * (t * t * (t * t)) + (c5 : EReal) * (t * (t * t * (t * t)))) * Ideal.exp (-(a * a))))) ((2 : ℝ) : EReal) = geluR y := by
  rw [ht, ha]
  rfl

theorem reference_lay2 (l : Fin 64) : res_main_v121 V0 (ix2 r l)
    = lay2 (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) r l := by
  pointwise [res_main_v121, res_main_v94, res_main_v99, res_main_v82, res_main_v75]
  simp only [reference_lay1n, ofBits_two, sqrt_two, ofBits_cp, ofBits_c1, ofBits_c2, ofBits_c3, ofBits_c4, ofBits_c5]
  unfold lay2
  congr 1

theorem reference_lay3 (l : Fin 3) : res_main_v170 V0 (ix2 r l)
    = lay3 (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) r l := by
  pointwise [res_main_v170, res_main_v143, res_main_v148, res_main_v131, res_main_v124]
  simp only [reference_lay2, ofBits_two, sqrt_two, ofBits_cp, ofBits_c1, ofBits_c2, ofBits_c3, ofBits_c4, ofBits_c5]
  unfold lay3
  congr 1

theorem reference_weights (l : Fin 3) : res_main_v181 V0 (ix2 r l)
    = wS (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) r l := by
  unfold res_main_v181 res_main_v177
  clean_types
  pointwise
  simp only [reference_lay3, ofBits_neg_inf, bot_sup_eq]
  rfl

theorem reference_score (l : Fin 4096) : res_main_v192 V0 (ix2 r l)
    = scoreS (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) r
      (V0 (Proc.devRef .tc main_arg1)) (V0 (Proc.devRef .tc main_arg2)) (V0 (Proc.devRef .tc main_arg3)) l := by
  pointwise [res_main_v192, res_main_call0_call0_v8, res_main_call0_call0_v5, res_main_call1_call0_v8, res_main_call1_call0_v5,
    res_main_call2_call0_v8, res_main_call2_call0_v5]
  simp only [reference_weights, dof_4095, if_pos pos_4095]
  rfl

end Cert.Proof

end
-- ==== Proof.ReferenceMask.lean ====
/-
  The reference's threshold of a row and its mask.
-/
module

public import proofs.«01_k».proof.Proof.ReferenceScore
public import proofs.«01_k».proof.Proof.Threshold
public import Idealize.ShloMosaic.Lib.SortFacts

@[expose] public section

set_option maxRecDepth 16384

noncomputable section

namespace Cert.Proof

open Idealize.ShloMosaic
open Cert.ReferenceIdeal Cert.ReferenceIdeal.Gen Cert.ReferenceIdeal.Value

/-- At the ideal the comparator is the order. -/
theorem comparator_lt (a b : EReal) : comparator_f32_d1 (F := Ideal) a b = BitVec.ofBool (decide (a < b)) := by
  have h : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have h1 : FloatOps.cmpf (F := Ideal) (φ := .f32) .une x x = 0#1 := by
      show BitVec.ofBool (decide (x ≠ x)) = 0#1
      simp
    rw [h1]
    show Scalar.select (BitVec.ofBool (decide (x = Ideal.ofBits .f32 0x00000000#32))) (Ideal.ofBits .f32 0x00000000#32) x = x
    by_cases hx : x = Ideal.ofBits .f32 0x00000000#32
    · rw [decide_eq_true hx, ← hx]; rfl
    · rw [decide_eq_false hx]; rfl
  unfold comparator_f32_d1
  dsimp only
  rw [h, h]
  rfl

/-- The sorted row at a rank is the row at some permutation of the ranks, in order. -/
theorem sort_read (x : FVec Ideal S16x4096 .f32) (r : Fin 16) : ∃ σ : Fin 4096 → Fin 4096, Function.Injective σ ∧ Function.Surjective σ
    ∧ (∀ i j, i < j → (x (ix2 r (σ i)) : EReal) ≤ x (ix2 r (σ j)))
    ∧ ∀ k, Host.sort S16x4096 1 (comparator_f32_d1 (F := Ideal)) x (ix2 r k) = x (ix2 r (σ k)) := by
  have hal : ∀ (k q : Fin 4096), (ix2 r k : S16x4096.Idx).along (1 : Fin 2) q = ix2 r q := by
    intro k q
    funext a
    fin_cases a <;> rfl
  let R : Fin 4096 → Fin 4096 → Bool := fun k k' => comparator_f32_d1 (F := Ideal) (x (ix2 r k)) (x (ix2 r k')) == 1#1
  have hR : ∀ a b, R a b = true ↔ (x (ix2 r a) : EReal) < x (ix2 r b) := by
    intro a b
    show (comparator_f32_d1 (F := Ideal) (x (ix2 r a)) (x (ix2 r b)) == 1#1) = true ↔ _
    rw [comparator_lt]
    by_cases h : (x (ix2 r a) : EReal) < x (ix2 r b) <;> simp [h]
  refine ⟨sortedFrom R, sortedFrom_injective R, sortedFrom_surjective R, fun i j hij => ?_, fun k => ?_⟩
  · have := sortedFrom_noInversion R R
      (fun a b h => by
        rw [← Bool.not_eq_true, hR]
        exact not_lt.mpr ((hR a b).mp h).le)
      (fun a b h => h)
      (fun a b c h1 h2 => by
        rw [← Bool.not_eq_true, hR, not_lt] at h1 h2 ⊢
        exact h2.trans h1) i j hij
    rw [← Bool.not_eq_true, hR, not_lt] at this
    exact this
  · unfold Host.sort
    rw [dif_pos (by decide : 1 < S16x4096.rank)]
    dsimp only
    have e : (fun q q' : Fin 4096 => comparator_f32_d1 (F := Ideal) (x ((ix2 r k : S16x4096.Idx).along (1 : Fin 2) q))
        (x ((ix2 r k : S16x4096.Idx).along (1 : Fin 2) q')) == 1#1) = R := by
      funext q q'
      exact congrArg₂ (fun a b => comparator_f32_d1 (F := Ideal) (x a) (x b) == 1#1) (hal k q) (hal k q')
    exact (congrArg (fun f => x ((ix2 r k : S16x4096.Idx).along (1 : Fin 2) (sortedFrom f k))) e).trans (congrArg x (hal k _))

variable (V0 : Valuation τ sig (Elt Ideal))

/-- The reference's thresholds: the least float at or above the score of rank 1638, of each row. -/
def refThr : FVec Ideal S16 .f32 :=
  Host.reduce FloatOps.minimumf (select (cmpf .oge (broadcastInDim S16x2139095040 ![0, 1] bcast_S1x2139095040_S16x2139095040_0_1 (broadcastInDim S1x2139095040 ![1] bcast_S2139095040_S1x2139095040_1 (res_main_v196 V0))) (broadcastInDim S16x2139095040 ![0, 1] bcast_S16x1_S16x2139095040_0_1 (extractStridedSlice S16x1 ![0, 1638] (Host.sort S16x4096 1 comparator_f32_d1 (res_main_v192 V0)) slices_S16x4096_S16x1_0_1638))) (broadcastInDim S16x2139095040 ![0, 1] bcast_S1x2139095040_S16x2139095040_0_1 (broadcastInDim S1x2139095040 ![1] bcast_S2139095040_S1x2139095040_1 (res_main_v196 V0))) (broadcastInDim S16x2139095040 ![] bcast_S_S16x2139095040 (id (constant S_ .f32 0x7F800000#32)))) (constant S_ .f32 0x7F800000#32) reducesTo_S16x2139095040_S16_d1 h_S_

/-- The reference's mask. -/
def refMask : FVec Ideal S16x4096 .f32 :=
  Host.divf (broadcastInDim S16x4096 ![] bcast_S_S16x4096 (constant S_ .f32 0x3F800000#32)) (addf (broadcastInDim S16x4096 ![] bcast_S_S16x4096 (constant S_ .f32 0x3F800000#32)) (Host.exp (Host.negf (Host.divf (subf (res_main_v192 V0) (broadcastInDim S16x4096 ![0, 1] bcast_S16x1_S16x4096_0_1 (broadcastInDim S16x1 ![0] bcast_S16_S16x1_0 (refThr V0)))) (broadcastInDim S16x4096 ![] bcast_S_S16x4096 (constant S_ .f32 0x3E99999A#32))))))

/-- The reference's mask at an index, of the score there and the row's threshold. -/
theorem refMask_read (r : Fin 16) (l : Fin 4096) (s θ : EReal) (hs : (res_main_v192 V0 (ix2 r l) : EReal) = s) (hθ : refThr V0 (ix1 r) = θ) :
    refMask V0 (ix2 r l) = sigm (Ideal.div (s - θ) (Ideal.ofBits .f32 1050253722#32)) := by
  subst hs hθ
  unfold refMask
  clean_types
  pointwise
  rfl

/-- The reference's threshold of a row, given the first word whose number bounds 1639 of the row's scores. -/
theorem refThr_read (r : Fin 16) (s : Fin 4096 → EReal) (hs : ∀ l, (res_main_v192 V0 (ix2 r l) : EReal) = s l) (b : ℕ)
    (hb : b ≤ 1065353216) (hp : 1639 ≤ cnt s (fv b : ℝ)) (hn : ∀ c, c + 1 = b → ¬ 1639 ≤ cnt s (fv c : ℝ)) :
    refThr V0 (ix1 r) = ((fv b : ℝ) : EReal) := by
  obtain ⟨σ, hi, hsur, hm, hσ⟩ := sort_read (res_main_v192 V0) r
  have hle : ∀ v : EReal, s (σ 1638) ≤ v ↔ 1639 ≤ cnt s v := rank_le_iff s σ hi hsur fun i j h => by
    rw [← hs, ← hs]; exact hm i j h
  have hq : (Host.sort S16x4096 1 (comparator_f32_d1 (F := Ideal)) (res_main_v192 V0) (ix2 r 1638) : EReal) = s (σ 1638) :=
    (hσ 1638).trans (hs _)
  unfold refThr
  clean_types
  pointwise [res_main_v196]
  rw [ofBits_inf]
  refine least_word le_rfl (s (σ 1638)) b (by omega) ((hle _).mpr hp) (fun c hc => fun h => hn c hc ((hle _).mp h)) _ fun p => ?_
  rw [ofBits_word p.val p.isLt]
  rw [← hq]
  exact congrArg _ ofBits_inf

end Cert.Proof

end
-- ==== Proof.Range.lean ====
/-
  The scores of a row: all in [0, 1], or, where every softmax term is zero, all the least extended real.
-/
module

public import proofs.«01_k».proof.Proof.Spec

@[expose] public section

set_option maxRecDepth 16384

noncomputable section

namespace Cert.Proof

open Idealize.ShloMosaic
open Cert.KernelIdeal (S16x4096 S16x1536 S1536x256 S256 S256x64 S64 S64x3 S3 S16x256 S16x64 S16x3 S16x1 S16)

/-- The logistic function away from the least number is positive. -/
theorem sigm_pos (z : EReal) (hz : z ≠ ⊥) : ∃ t : ℝ, 0 < t ∧ t ≤ 1 ∧ sigm z = (t : EReal) := by
  obtain ⟨t, h0, h1, ht⟩ := sigm_range z
  refine ⟨t, lt_of_le_of_ne h0 fun h => ?_, h1, ht⟩
  have key : ∀ r : ℝ, 0 ≤ r → Ideal.div 1 (1 + (r : EReal)) ≠ 0 := by
    intro r hr
    have : (1 : EReal) + (r : EReal) = ((1 + r : ℝ) : EReal) := by push_cast; rfl
    rw [this, Ideal.div_coe (by positivity), one_mul]
    exact_mod_cast (by positivity : (1 / (1 + r) : ℝ) ≠ 0)
  rw [← h] at ht
  induction z with
  | bot => exact hz rfl
  | top =>
    refine key 0 le_rfl (Eq.trans ?_ ht)
    unfold sigm
    rw [EReal.neg_top, Ideal.exp_bot]
    rfl
  | coe z =>
    refine key (Real.exp (-z)) (Real.exp_pos _).le (Eq.trans ?_ ht)
    unfold sigm
    rw [← EReal.coe_neg, Ideal.exp_coe]

theorem mul_self_nonneg' (d : EReal) : 0 ≤ d * d := by
  induction d with
  | bot => simp
  | top => simp
  | coe d => exact_mod_cast mul_self_nonneg d

theorem sqrt_nonneg' (v : EReal) (hv : 0 ≤ v) : 0 ≤ Ideal.sqrt v := by
  induction v with
  | bot => simp at hv
  | top => rw [Ideal.sqrt_top]; exact le_top
  | coe v =>
    rw [Ideal.sqrt_coe, if_neg (not_lt.mpr (by exact_mod_cast hv))]
    exact_mod_cast Real.sqrt_nonneg v

/-- The variance is not negative, and is the greatest number when a deviation is the least. -/
theorem var_nonneg (x : Fin 4096 → EReal) : 0 ≤ Ideal.div (∑ j, dev x j * dev x j) (Ideal.ofBits .f32 1166012416#32) := by
  rw [ofBits_4095, Ideal.div_coe (by norm_num)]
  refine mul_nonneg (Finset.sum_nonneg fun j _ => mul_self_nonneg' _) ?_
  exact_mod_cast (by norm_num : (0 : ℝ) ≤ 1 / 4095)

theorem var_top (x : Fin 4096 → EReal) (l : Fin 4096) (h : dev x l = ⊥) :
    Ideal.div (∑ j, dev x j * dev x j) (Ideal.ofBits .f32 1166012416#32) = ⊤ := by
  have hs : ∑ j, dev x j * dev x j = ⊤ := by
    refine top_le_iff.mp ?_
    have := Finset.single_le_sum (f := fun j => dev x j * dev x j) (fun j _ => mul_self_nonneg' (dev x j)) (Finset.mem_univ l)
    simpa [h] using this
  rw [hs, ofBits_4095, Ideal.div_coe (by norm_num)]
  exact EReal.top_mul_of_pos (by exact_mod_cast (by norm_num : (0 : ℝ) < 1 / 4095))

/-- The normalised element is never the least number. -/
theorem norm_ne_bot (x : Fin 4096 → EReal) (l : Fin 4096) : Ideal.div (dev x l) (spread x) ≠ ⊥ := by
  obtain ⟨e, he, hee⟩ := ofBits_eps
  have hee' : Ideal.ofBits .f32 925353388#32 = (e : EReal) := hee
  have hpos : 0 < spread x := by
    unfold spread
    rw [hee']
    exact lt_of_lt_of_le (by exact_mod_cast he : (0 : EReal) < (e : EReal)) (le_add_of_nonneg_left (sqrt_nonneg' _ (var_nonneg x)))
  have htop : dev x l = ⊥ → spread x = ⊤ := fun h => by
    unfold spread
    rw [var_top x l h, Ideal.sqrt_top, hee']
    rfl
  generalize spread x = y at hpos htop
  generalize dev x l = d at htop
  have hd : Ideal.div d y = d * y⁻¹ := if_neg hpos.ne'
  rw [hd]
  induction y with
  | bot => simp at hpos
  | top => simp
  | coe y =>
    have hy : 0 < y := by exact_mod_cast hpos
    rw [← EReal.coe_inv]
    induction d with
    | bot => exact absurd (htop rfl) (EReal.coe_ne_top y)
    | top => rw [EReal.top_mul_of_pos (by exact_mod_cast inv_pos.mpr hy)]; simp
    | coe d => rw [← EReal.coe_mul]; exact EReal.coe_ne_bot _

theorem nz_pos (x : Fin 4096 → EReal) (l : Fin 4096) : ∃ t : ℝ, 0 < t ∧ t ≤ 1 ∧ nz x l = (t : EReal) :=
  sigm_pos _ (norm_ne_bot x l)

theorem real_of_unit (v : EReal) (h0 : 0 ≤ v) (h1 : v ≤ 1) : ∃ t : ℝ, 0 ≤ t ∧ t ≤ 1 ∧ v = (t : EReal) := by
  induction v with
  | bot => simp at h0
  | top => exact absurd h1 (not_le.mpr (EReal.coe_lt_top 1))
  | coe v => exact ⟨v, by exact_mod_cast h0, by exact_mod_cast h1, rfl⟩

variable (x3 : Vec Ideal S16x1536 .f32) (x4 : Vec Ideal S1536x256 .f32) (x5 x6 x7 : Vec Ideal S256 .f32)
  (x8 : Vec Ideal S256x64 .f32) (x9 : Vec Ideal S64 .f32) (x10 : Vec Ideal S64x3 .f32) (x11 : Vec Ideal S3 .f32) (r : Fin 16)

/-- A row's scores are all in [0, 1], or all the least number. -/
theorem score_cases (x0 x1 x2 : Vec Ideal S16x4096 .f32) :
    (∀ l, ∃ t : ℝ, 0 ≤ t ∧ t ≤ 1 ∧ scoreS x3 x4 x5 x6 x7 x8 x9 x10 x11 r x0 x1 x2 l = (t : EReal))
      ∨ ∀ l, scoreS x3 x4 x5 x6 x7 x8 x9 x10 x11 r x0 x1 x2 l = ⊥ := by
  unfold scoreS wS smax
  generalize lay3 x3 x4 x5 x6 x7 x8 x9 x10 x11 r = z
  have he : ∀ k, 0 ≤ expo z k := fun k => exp_nonneg _
  rw [Fin.sum_univ_three]
  by_cases hs : expo z 0 + expo z 1 + expo z 2 = 0
  · right
    intro l
    have h0 : ∀ k : Fin 3, expo z k = 0 := by
      have a := he 0
      have b := he 1
      have c := he 2
      have hle : ∀ k : Fin 3, expo z k ≤ expo z 0 + expo z 1 + expo z 2 := by
        intro k
        rw [← Fin.sum_univ_three]
        exact Finset.single_le_sum (fun j _ => he j) (Finset.mem_univ k)
      exact fun k => le_antisymm (hs ▸ hle k) (he k)
    have hd : Ideal.div 0 0 = ⊥ := by simp [Ideal.div]
    obtain ⟨s0, p0, -, e0⟩ := nz_pos (fun j => x0 (ix2 r j)) l
    rw [hs, h0, h0, h0, hd, e0, EReal.bot_mul_of_pos (by exact_mod_cast p0)]
    simp
  · left
    intro l
    obtain ⟨s0, p0, q0, e0⟩ := nz_pos (fun j => x0 (ix2 r j)) l
    obtain ⟨s1, p1, q1, e1⟩ := nz_pos (fun j => x1 (ix2 r j)) l
    obtain ⟨s2, p2, q2, e2⟩ := nz_pos (fun j => x2 (ix2 r j)) l
    obtain ⟨w0, w1, w2, hw⟩ := softmax_weights _ _ _ (he 0) (he 1) (he 2) hs
    rw [e0, e1, e2]
    obtain ⟨a, b⟩ := weighted_range _ _ _ s0 s1 s2 w0 w1 w2 hw p0.le p1.le p2.le q0 q1 q2
    exact real_of_unit _ a b

end Cert.Proof

end
-- ==== Proof.Equation.lean ====
/-
  The two programs' results are equal, index by index.
-/
module

public import proofs.«01_k».proof.Proof.Arrays
public import proofs.«01_k».proof.Proof.KernelMask
public import proofs.«01_k».proof.Proof.ReferenceMask
public import proofs.«01_k».proof.Proof.Range

@[expose] public section

set_option maxRecDepth 16384

noncomputable section

namespace Cert.Proof

open Idealize.ShloMosaic Idealize.ShloMosaic.TcCoe
open Cert.KernelIdeal.Gen (kMask maskOf kBounds W4 W4_prod)
open Cert.ReferenceIdeal Cert.ReferenceIdeal.Gen Cert.ReferenceIdeal.Value

variable (V0 : Valuation τ sig (Elt Ideal))

/-- The masks are equal at an index. -/
theorem mask_eq_at (r : Fin 16) (l : Fin 4096) : refMask V0 (ix2 r l)
    = kMask (F := Ideal) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10)) (V0 (Proc.devRef .tc main_arg11))
      (V0 (Proc.devRef .tc main_arg12)) (ix2 r l) := by
  refine Eq.trans ?_ (kernel_mask _ _ _ _ _ _ _ _ _ _ _ _ r l).symm
  unfold logi
  have hk := kernel_score (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) (V0 (Proc.devRef .tc main_arg10))
    (V0 (Proc.devRef .tc main_arg11)) (V0 (Proc.devRef .tc main_arg12)) r (V0 (Proc.devRef .tc main_arg1))
    (V0 (Proc.devRef .tc main_arg2)) (V0 (Proc.devRef .tc main_arg3))
  have hr := reference_score V0 r
  have hc := score_cases (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) (V0 (Proc.devRef .tc main_arg10))
    (V0 (Proc.devRef .tc main_arg11)) (V0 (Proc.devRef .tc main_arg12)) r (V0 (Proc.devRef .tc main_arg1))
    (V0 (Proc.devRef .tc main_arg2)) (V0 (Proc.devRef .tc main_arg3))
  generalize hS : scoreS (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) (V0 (Proc.devRef .tc main_arg10))
    (V0 (Proc.devRef .tc main_arg11)) (V0 (Proc.devRef .tc main_arg12)) r (V0 (Proc.devRef .tc main_arg1))
    (V0 (Proc.devRef .tc main_arg2)) (V0 (Proc.devRef .tc main_arg3)) = s at hk hr hc ⊢
  rcases hc with hu | hb
  · obtain ⟨b, e, hb, hp, hn⟩ := kernel_threshold _ _ _ _ _ r s hk hu
    rw [e]
    unfold passes at hp hn
    rw [ofBits_word b (by omega)] at hp ⊢
    refine refMask_read V0 r l _ _ (hr l) (refThr_read V0 r s hr b hb hp fun c hcb => ?_)
    have h := hn c hcb
    rw [ofBits_word c (by omega)] at h
    exact h
  · rw [refMask_read V0 r l ⊥ _ ((hr l).trans (hb l)) rfl, hb l, EReal.bot_sub, EReal.bot_sub]

/-- The kernel's mask of equal arguments. -/
theorem kMask_congr {x0 y0 x1 y1 x2 y2 : Vec Ideal S16x4096 .f32} {x3 y3 : Vec Ideal S16x1536 .f32} {x4 y4 : Vec Ideal S1536x256 .f32}
    {x5 y5 x6 y6 x7 y7 : Vec Ideal S256 .f32} {x8 y8 : Vec Ideal S256x64 .f32} {x9 y9 : Vec Ideal S64 .f32} {x10 y10 : Vec Ideal S64x3 .f32}
    {x11 y11 : Vec Ideal S3 .f32} (h0 : x0 = y0) (h1 : x1 = y1) (h2 : x2 = y2) (h3 : x3 = y3) (h4 : x4 = y4) (h5 : x5 = y5) (h6 : x6 = y6)
    (h7 : x7 = y7) (h8 : x8 = y8) (h9 : x9 = y9) (h10 : x10 = y10) (h11 : x11 = y11) :
    kMask (F := Ideal) x0 x1 x2 x3 x4 x5 x6 x7 x8 x9 x10 x11 = kMask (F := Ideal) y0 y1 y2 y3 y4 y5 y6 y7 y8 y9 y10 y11 := by
  subst h0 h1 h2 h3 h4 h5 h6 h7 h8 h9 h10 h11
  rfl

/-- The reference's masks as the kernel's mask of the same arguments. -/
theorem mask_eq : refMask V0
    = kMask (F := Ideal) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10)) (V0 (Proc.devRef .tc main_arg11))
      (V0 (Proc.devRef .tc main_arg12)) := by
  funext i
  idx_vars i
  exact mask_eq_at V0 _ _

/-- The reference's product. -/
def refProd (X : FVec Ideal S16x4096x512 .f32) (M : FVec Ideal S16x4096 .f32) : FVec Ideal S16x4096x512 .f32 :=
  mulf X (broadcastInDim S16x4096x512 ![0, 1, 2] bcast_S16x4096x1_S16x4096x512_0_1_2 (broadcastInDim S16x4096x1 ![0, 1] bcast_S16x4096_S16x4096x1_0_1 M))

theorem refProd_read (X : FVec Ideal S16x4096x512 .f32) (M : FVec Ideal S16x4096 .f32) (b : Fin 16) (t : Fin 4096) (l : Fin 512) :
    refProd X M (ix3 b t l) = FloatOps.mulf (X (ix3 b t l)) (M (ix2 b t)) := by
  pointwise [refProd]

/-- The products are equal: the kernel's is the reference's of the first argument and the kernel's mask. -/
theorem prod_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    refProd (m ((c : Thread Cert.KernelIdeal.nD Cert.KernelIdeal.τ).loc Cert.KernelIdeal.main_arg0)) (maskOf m c)
      = W4 m ρ c (Proc.devRef .tc Cert.KernelIdeal.main_v4) := by
  funext i
  revert i
  show ∀ i : S16x4096x512.Idx, _
  intro i
  idx_vars i
  exact (refProd_read _ _ _ _ _).trans (W4_prod m ρ c _ _ _).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Run
public import proofs.«01_k».proof.Proof.Equation

@[expose] public section

noncomputable section

namespace Cert.Proof

open Idealize.ShloMosaic Idealize.ShloMosaic.StableHlo Idealize.SL.Sem Cert.Kernel

/-- Every run of the reference ends, leaves its arguments unchanged and every semaphore at zero. -/
theorem frame_reference : Cert.quiescent_ReferenceIdeal (hReferenceIdeal := Cert.ReferenceIdeal.Gen.facts) := fun m g _ =>
  (θ_run _ _ _).mono (fun r h => ⟨fun c => (h c).2.2, sem_eq_zero_of_no_sems (by decide) _⟩) (Cert.ReferenceIdeal.Value.run m g)

/-- The kernel's and the reference's results are equal over the reals, from equal arguments. -/
theorem equal_results : Cert.algebraic_KernelIdeal_ReferenceIdeal (hKernelIdeal := Cert.KernelIdeal.Gen.facts)
    (hReferenceIdeal := Cert.ReferenceIdeal.Gen.facts) := fun m g m' g' _ hargs => by
  refine ⟨fun c => Cert.KernelIdeal.Gen.W4 m g c (Proc.devRef .tc Cert.KernelIdeal.main_v4),
    fun c => Cert.KernelIdeal.Gen.W4 m g c (Proc.devRef .tc Cert.KernelIdeal.main_v0), Cert.KernelIdeal.Gen.run_at_end m g, ?_⟩
  refine (θ_run _ _ _).mono (fun r h c => ?_) (Cert.ReferenceIdeal.Value.run m' g')
  obtain ⟨h0, h1, h2, h3, h4, h5, h6, h7, h8, h9, h10, h11, h12⟩ := hargs c
  have hM : refMask (launchContents m' c) = Cert.KernelIdeal.Gen.maskOf m c :=
    (mask_eq _).trans (kMask_congr h1 h2 h3 h4 h5 h6 h7 h8 h9 h10 h11 h12)
  have h0' : launchContents m' c (Proc.devRef .tc Cert.ReferenceIdeal.main_arg0) = m ((c.tc : Thread Cert.KernelIdeal.nD Cert.KernelIdeal.τ).loc Cert.KernelIdeal.main_arg0) := h0
  obtain ⟨hp, hv, hrest⟩ := h c
  refine ⟨?_, ?_, hrest⟩
  · refine hp.trans (Eq.trans ?_ (prod_eq m g c))
    rw [← hM, ← h0']
    unfold refProd refMask refThr
    rfl
  · refine hv.trans (Eq.trans ?_ (Cert.KernelIdeal.Gen.W4_mask m g c).symm)
    rw [← hM]
    unfold refMask refThr
    rfl

/-- The named constant and the two sign bits are what the rules state. -/
theorem rules_hold : Cert.preserves_Kernel_KernelIdeal :=
  ⟨IdealRules.named_const.statement Cert.KernelIdeal.κ "sqrt2" .f32 0x3FB504F3#32 ((Real.sqrt 2 : ℝ) : EReal) rfl,
    IdealRules.sign_bit.statement Cert.KernelIdeal.S16x256 .f32, IdealRules.sign_bit.statement Cert.KernelIdeal.S16x64 .f32⟩

/-- The five claims: each program's frame, the rules between the kernel and its idealization, and the equality of results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, rules_hold, equal_results⟩

end Cert.Proof

end
